-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v115)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v115) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v313) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1000x256x14x14 : Shape := ⟨4, ![1000, 256, 14, 14]⟩
abbrev S256x256x3x3 : Shape := ⟨4, ![256, 256, 3, 3]⟩
abbrev S256 : Shape := ⟨1, ![256]⟩
abbrev S3x256x1x1 : Shape := ⟨4, ![3, 256, 1, 1]⟩
abbrev S3 : Shape := ⟨1, ![3]⟩
abbrev S1000x256x196 : Shape := ⟨3, ![1000, 256, 196]⟩
abbrev S3x3x256x256 : Shape := ⟨4, ![3, 3, 256, 256]⟩
abbrev S9x256x256 : Shape := ⟨3, ![9, 256, 256]⟩
abbrev S3x768x256 : Shape := ⟨3, ![3, 768, 256]⟩
abbrev S1x256x256 : Shape := ⟨3, ![1, 256, 256]⟩
abbrev S256x256 : Shape := ⟨2, ![256, 256]⟩
abbrev S512x256 : Shape := ⟨2, ![512, 256]⟩
abbrev S2x256x256 : Shape := ⟨3, ![2, 256, 256]⟩
abbrev S1x512x256 : Shape := ⟨3, ![1, 512, 256]⟩
abbrev S2x512x256 : Shape := ⟨3, ![2, 512, 256]⟩
abbrev S3x256 : Shape := ⟨2, ![3, 256]⟩
abbrev S256x3 : Shape := ⟨2, ![256, 3]⟩
abbrev S_ : Shape := ⟨0, ![]⟩
abbrev S256x8 : Shape := ⟨2, ![256, 8]⟩
abbrev S8 : Shape := ⟨1, ![8]⟩
abbrev S1x8 : Shape := ⟨2, ![1, 8]⟩
abbrev S1x256 : Shape := ⟨2, ![1, 256]⟩
abbrev S196 : Shape := ⟨1, ![196]⟩
abbrev S196x256 : Shape := ⟨2, ![196, 256]⟩
abbrev S196x1 : Shape := ⟨2, ![196, 1]⟩
abbrev S196x2 : Shape := ⟨2, ![196, 2]⟩
abbrev S1000x256x8 : Shape := ⟨3, ![1000, 256, 8]⟩
abbrev S8x256x196 : Shape := ⟨3, ![8, 256, 196]⟩
abbrev S8x256x8 : Shape := ⟨3, ![8, 256, 8]⟩
abbrev S4x256x196 : Shape := ⟨3, ![4, 256, 196]⟩
abbrev S1024x1 : Shape := ⟨2, ![1024, 1]⟩
abbrev S1024x196 : Shape := ⟨2, ![1024, 196]⟩
abbrev S1024x256 : Shape := ⟨2, ![1024, 256]⟩
abbrev S4x256x256 : Shape := ⟨3, ![4, 256, 256]⟩
abbrev S16x256 : Shape := ⟨2, ![16, 256]⟩
abbrev S1040x256 : Shape := ⟨2, ![1040, 256]⟩
abbrev S1056x256 : Shape := ⟨2, ![1056, 256]⟩
abbrev S1056x768 : Shape := ⟨2, ![1056, 768]⟩
abbrev S1024x768 : Shape := ⟨2, ![1024, 768]⟩
abbrev S1x768x256 : Shape := ⟨3, ![1, 768, 256]⟩
abbrev S768x256 : Shape := ⟨2, ![768, 256]⟩
abbrev S1056x512 : Shape := ⟨2, ![1056, 512]⟩
abbrev S1024x512 : Shape := ⟨2, ![1024, 512]⟩
abbrev S1024x8 : Shape := ⟨2, ![1024, 8]⟩
abbrev S4x256x8 : Shape := ⟨3, ![4, 256, 8]⟩
abbrev S1000x256x3 : Shape := ⟨3, ![1000, 256, 3]⟩
abbrev S1000x16x16x3 : Shape := ⟨4, ![1000, 16, 16, 3]⟩
abbrev S1000x14x14x3 : Shape := ⟨4, ![1000, 14, 14, 3]⟩
abbrev S1000x3x14x14 : Shape := ⟨4, ![1000, 3, 14, 14]⟩
abbrev S1000x3x14x14x1 : Shape := ⟨5, ![1000, 3, 14, 14, 1]⟩
abbrev S1000x3x14x14x2 : Shape := ⟨5, ![1000, 3, 14, 14, 2]⟩
abbrev S1000x3x14x28 : Shape := ⟨4, ![1000, 3, 14, 28]⟩
abbrev S1000x3x14x1x28 : Shape := ⟨5, ![1000, 3, 14, 1, 28]⟩
abbrev S1000x3x14x2x28 : Shape := ⟨5, ![1000, 3, 14, 2, 28]⟩
abbrev S1000x3x28x28 : Shape := ⟨4, ![1000, 3, 28, 28]⟩

abbrev nBuf : Space → Nat
  | .hbm => 182
  | .vmem => 27
  | .smem => 0
  | _ => 0

abbrev hbmTy0_0 (i : Nat) : BufTy := match i % 128 with
  | 0 => ⟨S1000x256x14x14, .f32⟩
  | 1 => ⟨S256x256x3x3, .f32⟩
  | 2 => ⟨S256, .f32⟩
  | 3 => ⟨S256x256x3x3, .f32⟩
  | 4 => ⟨S256, .f32⟩
  | 5 => ⟨S256x256x3x3, .f32⟩
  | 6 => ⟨S256, .f32⟩
  | 7 => ⟨S256x256x3x3, .f32⟩
  | 8 => ⟨S256, .f32⟩
  | 9 => ⟨S256x256x3x3, .f32⟩
  | 10 => ⟨S256, .f32⟩
  | 11 => ⟨S3x256x1x1, .f32⟩
  | 12 => ⟨S3, .f32⟩
  | 13 => ⟨S1000x256x196, .f32⟩
  | 14 => ⟨S3x3x256x256, .f32⟩
  | 15 => ⟨S9x256x256, .f32⟩
  | 16 => ⟨S3x768x256, .f32⟩
  | 17 => ⟨S3x768x256, .bf16⟩
  | 18 => ⟨S3x3x256x256, .f32⟩
  | 19 => ⟨S9x256x256, .f32⟩
  | 20 => ⟨S3x768x256, .f32⟩
  | 21 => ⟨S3x768x256, .bf16⟩
  | 22 => ⟨S3x3x256x256, .f32⟩
  | 23 => ⟨S9x256x256, .f32⟩
  | 24 => ⟨S3x768x256, .f32⟩
  | 25 => ⟨S3x768x256, .bf16⟩
  | 26 => ⟨S3x3x256x256, .f32⟩
  | 27 => ⟨S9x256x256, .f32⟩
  | 28 => ⟨S3x768x256, .f32⟩
  | 29 => ⟨S3x768x256, .bf16⟩
  | 30 => ⟨S256x256x3x3, .f32⟩
  | 31 => ⟨S3x3x256x256, .f32⟩
  | 32 => ⟨S9x256x256, .f32⟩
  | 33 => ⟨S9x256x256, .bf16⟩
  | 34 => ⟨S1x256x256, .bf16⟩
  | 35 => ⟨S256x256, .bf16⟩
  | 36 => ⟨S1x256x256, .bf16⟩
  | 37 => ⟨S256x256, .bf16⟩
  | 38 => ⟨S1x256x256, .bf16⟩
  | 39 => ⟨S256x256, .bf16⟩
  | 40 => ⟨S512x256, .bf16⟩
  | 41 => ⟨S1x256x256, .bf16⟩
  | 42 => ⟨S256x256, .bf16⟩
  | 43 => ⟨S1x256x256, .bf16⟩
  | 44 => ⟨S256x256, .bf16⟩
  | 45 => ⟨S1x256x256, .bf16⟩
  | 46 => ⟨S1x256x256, .bf16⟩
  | 47 => ⟨S2x256x256, .bf16⟩
  | 48 => ⟨S1x256x256, .bf16⟩
  | 49 => ⟨S256x256, .bf16⟩
  | 50 => ⟨S1x256x256, .bf16⟩
  | 51 => ⟨S256x256, .bf16⟩
  | 52 => ⟨S512x256, .bf16⟩
  | 53 => ⟨S1x256x256, .bf16⟩
  | 54 => ⟨S256x256, .bf16⟩
  | 55 => ⟨S1x256x256, .bf16⟩
  | 56 => ⟨S256x256, .bf16⟩
  | 57 => ⟨S512x256, .bf16⟩
  | 58 => ⟨S1x512x256, .bf16⟩
  | 59 => ⟨S1x512x256, .bf16⟩
  | 60 => ⟨S2x512x256, .bf16⟩
  | 61 => ⟨S3x256, .f32⟩
  | 62 => ⟨S256x3, .f32⟩
  | 63 => ⟨S_, .i32⟩
  | 64 => ⟨S_, .f32⟩
  | 65 => ⟨S256x8, .f32⟩
  | 66 => ⟨S256x8, .bf16⟩
  | 67 => ⟨S_, .i32⟩
  | 68 => ⟨S_, .f32⟩
  | 69 => ⟨S8, .f32⟩
  | 70 => ⟨S1x8, .f32⟩
  | 71 => ⟨S1x256, .f32⟩
  | 72 => ⟨S1x256, .f32⟩
  | 73 => ⟨S1x256, .f32⟩
  | 74 => ⟨S1x256, .f32⟩
  | 75 => ⟨S1x256, .f32⟩
  | 76 => ⟨S196, .i32⟩
  | 77 => ⟨S_, .i32⟩
  | 78 => ⟨S_, .i32⟩
  | 79 => ⟨S196, .i32⟩
  | 80 => ⟨S196, .i32⟩
  | 81 => ⟨S196, .i32⟩
  | 82 => ⟨S_, .i32⟩
  | 83 => ⟨S196, .i32⟩
  | 84 => ⟨S196, .i1⟩
  | 85 => ⟨S196, .i32⟩
  | 86 => ⟨S196, .i32⟩
  | 87 => ⟨S_, .i32⟩
  | 88 => ⟨S196, .i32⟩
  | 89 => ⟨S196, .i1⟩
  | 90 => ⟨S196, .i1⟩
  | 91 => ⟨S_, .i32⟩
  | 92 => ⟨S196, .i32⟩
  | 93 => ⟨S196, .i32⟩
  | 94 => ⟨S196, .i32⟩
  | 95 => ⟨S_, .i32⟩
  | 96 => ⟨S196, .i32⟩
  | 97 => ⟨S196, .i32⟩
  | 98 => ⟨S_, .i32⟩
  | 99 => ⟨S_, .i32⟩
  | 100 => ⟨S_, .i32⟩
  | 101 => ⟨S_, .i1⟩
  | 102 => ⟨S_, .i32⟩
  | 103 => ⟨S_, .i32⟩
  | 104 => ⟨S196, .i32⟩
  | 105 => ⟨S196, .i32⟩
  | 106 => ⟨S_, .i32⟩
  | 107 => ⟨S196, .i32⟩
  | 108 => ⟨S196, .i1⟩
  | 109 => ⟨S_, .i32⟩
  | 110 => ⟨S196, .i32⟩
  | 111 => ⟨S196, .i1⟩
  | 112 => ⟨S_, .i32⟩
  | 113 => ⟨S_, .i1⟩
  | 114 => ⟨S196, .i1⟩
  | 115 => ⟨S196, .i1⟩
  | 116 => ⟨S196, .i1⟩
  | 117 => ⟨S196, .i32⟩
  | 118 => ⟨S196, .i32⟩
  | 119 => ⟨S196, .i32⟩
  | 120 => ⟨S196, .i32⟩
  | 121 => ⟨S_, .bf16⟩
  | 122 => ⟨S196x256, .bf16⟩
  | 123 => ⟨S_, .i32⟩
  | 124 => ⟨S196, .i32⟩
  | 125 => ⟨S196, .i1⟩
  | 126 => ⟨S_, .i32⟩
  | 127 => ⟨S196, .i32⟩
  | _ => ⟨S1000x256x14x14, .f32⟩

abbrev hbmTy0_1 (i : Nat) : BufTy := match i % 128 with
  | 0 => ⟨S196, .i32⟩
  | 1 => ⟨S196, .i32⟩
  | 2 => ⟨S_, .i32⟩
  | 3 => ⟨S196, .i32⟩
  | 4 => ⟨S196, .i1⟩
  | 5 => ⟨S_, .i32⟩
  | 6 => ⟨S196, .i32⟩
  | 7 => ⟨S196, .i32⟩
  | 8 => ⟨S196, .i32⟩
  | 9 => ⟨S196x1, .i32⟩
  | 10 => ⟨S196x1, .i32⟩
  | 11 => ⟨S196x2, .i32⟩
  | 12 => ⟨S_, .bf16⟩
  | 13 => ⟨S196, .bf16⟩
  | 14 => ⟨S196x256, .bf16⟩
  | 15 => ⟨S256x256, .i32⟩
  | 16 => ⟨S256x256, .i32⟩
  | 17 => ⟨S_, .i32⟩
  | 18 => ⟨S256x256, .i32⟩
  | 19 => ⟨S256x256, .i32⟩
  | 20 => ⟨S256x256, .i1⟩
  | 21 => ⟨S256x256, .bf16⟩
  | 22 => ⟨S1000x256x8, .f32⟩
  | 23 => ⟨S1000x256x8, .f32⟩
  | 24 => ⟨S1000x256x8, .f32⟩
  | 25 => ⟨S1000x256x8, .f32⟩
  | 26 => ⟨S1000x256x3, .f32⟩
  | 27 => ⟨S1000x16x16x3, .f32⟩
  | 28 => ⟨S1000x14x14x3, .f32⟩
  | 29 => ⟨S1000x3x14x14, .f32⟩
  | 30 => ⟨S1000x256x3, .f32⟩
  | 31 => ⟨S1000x16x16x3, .f32⟩
  | 32 => ⟨S1000x14x14x3, .f32⟩
  | 33 => ⟨S1000x3x14x14, .f32⟩
  | 34 => ⟨S1000x256x3, .f32⟩
  | 35 => ⟨S1000x16x16x3, .f32⟩
  | 36 => ⟨S1000x14x14x3, .f32⟩
  | 37 => ⟨S1000x3x14x14, .f32⟩
  | 38 => ⟨S1000x256x3, .f32⟩
  | 39 => ⟨S1000x16x16x3, .f32⟩
  | 40 => ⟨S1000x14x14x3, .f32⟩
  | 41 => ⟨S1000x3x14x14, .f32⟩
  | 42 => ⟨S1000x3x14x14x1, .f32⟩
  | 43 => ⟨S1000x3x14x14x1, .f32⟩
  | 44 => ⟨S1000x3x14x14x2, .f32⟩
  | 45 => ⟨S1000x3x14x28, .f32⟩
  | 46 => ⟨S1000x3x14x14x1, .f32⟩
  | 47 => ⟨S1000x3x14x14x1, .f32⟩
  | 48 => ⟨S1000x3x14x14x2, .f32⟩
  | 49 => ⟨S1000x3x14x28, .f32⟩
  | 50 => ⟨S1000x3x14x1x28, .f32⟩
  | 51 => ⟨S1000x3x14x1x28, .f32⟩
  | 52 => ⟨S1000x3x14x2x28, .f32⟩
  | 53 => ⟨S1000x3x28x28, .f32⟩
  | _ => ⟨S1000x256x14x14, .f32⟩

abbrev hbmTy (i : Nat) : BufTy := match i / 128 with
  | 0 => hbmTy0_0 i
  | 1 => hbmTy0_1 i
  | _ => ⟨S1000x256x14x14, .f32⟩

abbrev bufTy : (tb : Table) → Fin (tcTables nBuf tb) → BufTy
  | .hbm, ⟨i, _⟩ => hbmTy i
  | .local _ .vmem, ⟨0, _⟩ => ⟨S8x256x196, .f32⟩
  | .local _ .vmem, ⟨1, _⟩ => ⟨S8x256x196, .f32⟩
  | .local _ .vmem, ⟨2, _⟩ => ⟨S196x256, .bf16⟩
  | .local _ .vmem, ⟨3, _⟩ => ⟨S256x256, .bf16⟩
  | .local _ .vmem, ⟨4, _⟩ => ⟨S3x768x256, .bf16⟩
  | .local _ .vmem, ⟨5, _⟩ => ⟨S1x256, .f32⟩
  | .local _ .vmem, ⟨6, _⟩ => ⟨S3x768x256, .bf16⟩
  | .local _ .vmem, ⟨7, _⟩ => ⟨S1x256, .f32⟩
  | .local _ .vmem, ⟨8, _⟩ => ⟨S3x768x256, .bf16⟩
  | .local _ .vmem, ⟨9, _⟩ => ⟨S1x256, .f32⟩
  | .local _ .vmem, ⟨10, _⟩ => ⟨S3x768x256, .bf16⟩
  | .local _ .vmem, ⟨11, _⟩ => ⟨S1x256, .f32⟩
  | .local _ .vmem, ⟨12, _⟩ => ⟨S256x256, .bf16⟩
  | .local _ .vmem, ⟨13, _⟩ => ⟨S512x256, .bf16⟩
  | .local _ .vmem, ⟨14, _⟩ => ⟨S2x256x256, .bf16⟩
  | .local _ .vmem, ⟨15, _⟩ => ⟨S2x512x256, .bf16⟩
  | .local _ .vmem, ⟨16, _⟩ => ⟨S1x256, .f32⟩
  | .local _ .vmem, ⟨17, _⟩ => ⟨S256x8, .bf16⟩
  | .local _ .vmem, ⟨18, _⟩ => ⟨S1x8, .f32⟩
  | .local _ .vmem, ⟨19, _⟩ => ⟨S8x256x8, .f32⟩
  | .local _ .vmem, ⟨20, _⟩ => ⟨S8x256x8, .f32⟩
  | .local _ .vmem, ⟨21, _⟩ => ⟨S8x256x8, .f32⟩
  | .local _ .vmem, ⟨22, _⟩ => ⟨S8x256x8, .f32⟩
  | .local _ .vmem, ⟨23, _⟩ => ⟨S8x256x8, .f32⟩
  | .local _ .vmem, ⟨24, _⟩ => ⟨S8x256x8, .f32⟩
  | .local _ .vmem, ⟨25, _⟩ => ⟨S8x256x8, .f32⟩
  | .local _ .vmem, ⟨26, _⟩ => ⟨S8x256x8, .f32⟩
  | _, _ => ⟨S1000x256x14x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_c : Ref sig .tc := ⟨.hbm, 63, rfl⟩
abbrev main_call1_v0 : Ref sig .tc := ⟨.hbm, 64, rfl⟩
abbrev main_v50 : Ref sig .tc := ⟨.hbm, 65, rfl⟩
abbrev main_v51 : Ref sig .tc := ⟨.hbm, 66, rfl⟩
abbrev main_c_0 : Ref sig .tc := ⟨.hbm, 67, rfl⟩
abbrev main_call2_v0 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_c_1 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_call3_v3 : Ref sig .tc := ⟨.hbm, 81, rfl⟩
abbrev main_call3_v4 : Ref sig .tc := ⟨.hbm, 82, rfl⟩
abbrev main_call3_v5 : Ref sig .tc := ⟨.hbm, 83, rfl⟩
abbrev main_call3_v6 : Ref sig .tc := ⟨.hbm, 84, rfl⟩
abbrev main_call3_v7 : Ref sig .tc := ⟨.hbm, 85, rfl⟩
abbrev main_call3_v8 : Ref sig .tc := ⟨.hbm, 86, rfl⟩
abbrev main_call3_c : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_c_0 : Ref sig .tc := ⟨.hbm, 91, rfl⟩
abbrev main_call3_v12 : Ref sig .tc := ⟨.hbm, 92, rfl⟩
abbrev main_call3_v13 : Ref sig .tc := ⟨.hbm, 93, rfl⟩
abbrev main_v60 : Ref sig .tc := ⟨.hbm, 94, rfl⟩
abbrev main_c_2 : Ref sig .tc := ⟨.hbm, 95, rfl⟩
abbrev main_v61 : Ref sig .tc := ⟨.hbm, 96, rfl⟩
abbrev main_v62 : Ref sig .tc := ⟨.hbm, 97, rfl⟩
abbrev main_c_3 : Ref sig .tc := ⟨.hbm, 98, rfl⟩
abbrev main_call4_v0 : Ref sig .tc := ⟨.hbm, 99, rfl⟩
abbrev main_call4_c : Ref sig .tc := ⟨.hbm, 100, rfl⟩
abbrev main_call4_v1 : Ref sig .tc := ⟨.hbm, 101, rfl⟩
abbrev main_call4_c_0 : Ref sig .tc := ⟨.hbm, 102, rfl⟩
abbrev main_call4_v2 : Ref sig .tc := ⟨.hbm, 103, rfl⟩
abbrev main_call4_v3 : Ref sig .tc := ⟨.hbm, 104, rfl⟩
abbrev main_call4_v4 : Ref sig .tc := ⟨.hbm, 105, rfl⟩
abbrev main_call4_c_1 : Ref sig .tc := ⟨.hbm, 106, rfl⟩
abbrev main_call4_v5 : Ref sig .tc := ⟨.hbm, 107, rfl⟩
abbrev main_call4_v6 : Ref sig .tc := ⟨.hbm, 108, rfl⟩
abbrev main_call4_c_2 : Ref sig .tc := ⟨.hbm, 109, rfl⟩
abbrev main_call4_v7 : Ref sig .tc := ⟨.hbm, 110, rfl⟩
abbrev main_call4_v8 : Ref sig .tc := ⟨.hbm, 111, rfl⟩
abbrev main_call4_c_3 : Ref sig .tc := ⟨.hbm, 112, rfl⟩
abbrev main_call4_v9 : Ref sig .tc := ⟨.hbm, 113, rfl⟩
abbrev main_call4_v10 : Ref sig .tc := ⟨.hbm, 114, rfl⟩
abbrev main_call4_v11 : Ref sig .tc := ⟨.hbm, 115, rfl⟩
abbrev main_call4_v12 : Ref sig .tc := ⟨.hbm, 116, rfl⟩
abbrev main_call4_v13 : Ref sig .tc := ⟨.hbm, 117, rfl⟩
abbrev main_call4_v14 : Ref sig .tc := ⟨.hbm, 118, rfl⟩
abbrev main_v63 : Ref sig .tc := ⟨.hbm, 119, rfl⟩
abbrev main_v64 : Ref sig .tc := ⟨.hbm, 120, rfl⟩
abbrev main_cst : Ref sig .tc := ⟨.hbm, 121, rfl⟩
abbrev main_v65 : Ref sig .tc := ⟨.hbm, 122, rfl⟩
abbrev main_c_4 : Ref sig .tc := ⟨.hbm, 123, rfl⟩
abbrev main_v66 : Ref sig .tc := ⟨.hbm, 124, rfl⟩
abbrev main_v67 : Ref sig .tc := ⟨.hbm, 125, rfl⟩
abbrev main_c_5 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_c_6 : Ref sig .tc := ⟨.hbm, 130, rfl⟩
abbrev main_v71 : Ref sig .tc := ⟨.hbm, 131, rfl⟩
abbrev main_v72 : Ref sig .tc := ⟨.hbm, 132, rfl⟩
abbrev main_c_7 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_cst_8 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_c_9 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_v87_0 : Ref sig .tc := ⟨.hbm, 150, rfl⟩
abbrev main_v87_1 : Ref sig .tc := ⟨.hbm, 151, rfl⟩
abbrev main_v87_2 : Ref sig .tc := ⟨.hbm, 152, rfl⟩
abbrev main_v87_3 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg18_1 : Ref sig .tc := ⟨.vmem, 20, rfl⟩
abbrev cc0_stg19_0 : Ref sig .tc := ⟨.vmem, 21, rfl⟩
abbrev cc0_stg19_1 : Ref sig .tc := ⟨.vmem, 22, rfl⟩
abbrev cc0_stg20_0 : Ref sig .tc := ⟨.vmem, 23, rfl⟩
abbrev cc0_stg20_1 : Ref sig .tc := ⟨.vmem, 24, rfl⟩
abbrev cc0_stg21_0 : Ref sig .tc := ⟨.vmem, 25, rfl⟩
abbrev cc0_stg21_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem18_1 : DmaSem sig := 20
abbrev cc0_sem19_0 : DmaSem sig := 21
abbrev cc0_sem19_1 : DmaSem sig := 22
abbrev cc0_sem20_0 : DmaSem sig := 23
abbrev cc0_sem20_1 : DmaSem sig := 24
abbrev cc0_sem21_0 : DmaSem sig := 25
abbrev cc0_sem21_1 : DmaSem sig := 26

abbrev nD : Nat := 1
abbrev τ : Topo := Topo.v7x

variable {F : FTy → Type} [FloatOps F]

abbrev grid0 : Pipeline.Grid := ⟨1, ![125], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x256x196 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S196x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x768x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x768x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x768x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x768x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2x256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2x512x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x8 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x8 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S8x256x8 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S8x256x8 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S8x256x8 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S8x256x8 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== ReferenceIdeal.lean ====
abbrev S1000x256x14x14 : Shape := ⟨4, ![1000, 256, 14, 14]⟩
abbrev S256x256x3x3 : Shape := ⟨4, ![256, 256, 3, 3]⟩
abbrev S256 : Shape := ⟨1, ![256]⟩
abbrev S3x256x1x1 : Shape := ⟨4, ![3, 256, 1, 1]⟩
abbrev S3 : Shape := ⟨1, ![3]⟩
abbrev S_ : Shape := ⟨0, ![]⟩
abbrev S1000x256x16x16 : Shape := ⟨4, ![1000, 256, 16, 16]⟩
abbrev S256x256x1x1 : Shape := ⟨4, ![256, 256, 1, 1]⟩
abbrev S256x256 : Shape := ⟨2, ![256, 256]⟩
abbrev S256x1000x14x14 : Shape := ⟨4, ![256, 1000, 14, 14]⟩
abbrev S1x256x1x1 : Shape := ⟨4, ![1, 256, 1, 1]⟩
abbrev S1000x256x30x30 : Shape := ⟨4, ![1000, 256, 30, 30]⟩
abbrev S1000x256x28x28 : Shape := ⟨4, ![1000, 256, 28, 28]⟩
abbrev S256x1000x28x28 : Shape := ⟨4, ![256, 1000, 28, 28]⟩
abbrev S3x256 : Shape := ⟨2, ![3, 256]⟩
abbrev S3x1000x28x28 : Shape := ⟨4, ![3, 1000, 28, 28]⟩
abbrev S1000x3x28x28 : Shape := ⟨4, ![1000, 3, 28, 28]⟩
abbrev S1x3x1x1 : Shape := ⟨4, ![1, 3, 1, 1]⟩

abbrev nBuf : Space → Nat
  | .hbm => 353
  | .vmem => 0
  | .smem => 0
  | _ => 0

abbrev hbmTy0_0 (i : Nat) : BufTy := match i % 128 with
  | 0 => ⟨S1000x256x14x14, .f32⟩
  | 1 => ⟨S256x256x3x3, .f32⟩
  | 2 => ⟨S256, .f32⟩
  | 3 => ⟨S256x256x3x3, .f32⟩
  | 4 => ⟨S256, .f32⟩
  | 5 => ⟨S256x256x3x3, .f32⟩
  | 6 => ⟨S256, .f32⟩
  | 7 => ⟨S256x256x3x3, .f32⟩
  | 8 => ⟨S256, .f32⟩
  | 9 => ⟨S256x256x3x3, .f32⟩
  | 10 => ⟨S256, .f32⟩
  | 11 => ⟨S3x256x1x1, .f32⟩
  | 12 => ⟨S3, .f32⟩
  | 13 => ⟨S_, .i32⟩
  | 14 => ⟨S_, .f32⟩
  | 15 => ⟨S1000x256x16x16, .f32⟩
  | 16 => ⟨S_, .f32⟩
  | 17 => ⟨S1000x256x14x14, .f32⟩
  | 18 => ⟨S1000x256x14x14, .f32⟩
  | 19 => ⟨S256x256x1x1, .f32⟩
  | 20 => ⟨S256x256, .f32⟩
  | 21 => ⟨S256x1000x14x14, .f32⟩
  | 22 => ⟨S1000x256x14x14, .f32⟩
  | 23 => ⟨S1000x256x14x14, .f32⟩
  | 24 => ⟨S1000x256x14x14, .f32⟩
  | 25 => ⟨S256x256x1x1, .f32⟩
  | 26 => ⟨S256x256, .f32⟩
  | 27 => ⟨S256x1000x14x14, .f32⟩
  | 28 => ⟨S1000x256x14x14, .f32⟩
  | 29 => ⟨S1000x256x14x14, .f32⟩
  | 30 => ⟨S1000x256x14x14, .f32⟩
  | 31 => ⟨S256x256x1x1, .f32⟩
  | 32 => ⟨S256x256, .f32⟩
  | 33 => ⟨S256x1000x14x14, .f32⟩
  | 34 => ⟨S1000x256x14x14, .f32⟩
  | 35 => ⟨S1000x256x14x14, .f32⟩
  | 36 => ⟨S1000x256x14x14, .f32⟩
  | 37 => ⟨S256x256x1x1, .f32⟩
  | 38 => ⟨S256x256, .f32⟩
  | 39 => ⟨S256x1000x14x14, .f32⟩
  | 40 => ⟨S1000x256x14x14, .f32⟩
  | 41 => ⟨S1000x256x14x14, .f32⟩
  | 42 => ⟨S1000x256x14x14, .f32⟩
  | 43 => ⟨S256x256x1x1, .f32⟩
  | 44 => ⟨S256x256, .f32⟩
  | 45 => ⟨S256x1000x14x14, .f32⟩
  | 46 => ⟨S1000x256x14x14, .f32⟩
  | 47 => ⟨S1000x256x14x14, .f32⟩
  | 48 => ⟨S1000x256x14x14, .f32⟩
  | 49 => ⟨S256x256x1x1, .f32⟩
  | 50 => ⟨S256x256, .f32⟩
  | 51 => ⟨S256x1000x14x14, .f32⟩
  | 52 => ⟨S1000x256x14x14, .f32⟩
  | 53 => ⟨S1000x256x14x14, .f32⟩
  | 54 => ⟨S1000x256x14x14, .f32⟩
  | 55 => ⟨S256x256x1x1, .f32⟩
  | 56 => ⟨S256x256, .f32⟩
  | 57 => ⟨S256x1000x14x14, .f32⟩
  | 58 => ⟨S1000x256x14x14, .f32⟩
  | 59 => ⟨S1000x256x14x14, .f32⟩
  | 60 => ⟨S1000x256x14x14, .f32⟩
  | 61 => ⟨S256x256x1x1, .f32⟩
  | 62 => ⟨S256x256, .f32⟩
  | 63 => ⟨S256x1000x14x14, .f32⟩
  | 64 => ⟨S1000x256x14x14, .f32⟩
  | 65 => ⟨S1000x256x14x14, .f32⟩
  | 66 => ⟨S1000x256x14x14, .f32⟩
  | 67 => ⟨S256x256x1x1, .f32⟩
  | 68 => ⟨S256x256, .f32⟩
  | 69 => ⟨S256x1000x14x14, .f32⟩
  | 70 => ⟨S1000x256x14x14, .f32⟩
  | 71 => ⟨S1000x256x14x14, .f32⟩
  | 72 => ⟨S1x256x1x1, .f32⟩
  | 73 => ⟨S1000x256x14x14, .f32⟩
  | 74 => ⟨S1000x256x14x14, .f32⟩
  | 75 => ⟨S_, .f32⟩
  | 76 => ⟨S1000x256x14x14, .f32⟩
  | 77 => ⟨S1000x256x14x14, .f32⟩
  | 78 => ⟨S_, .i32⟩
  | 79 => ⟨S_, .f32⟩
  | 80 => ⟨S1000x256x16x16, .f32⟩
  | 81 => ⟨S_, .f32⟩
  | 82 => ⟨S1000x256x14x14, .f32⟩
  | 83 => ⟨S1000x256x14x14, .f32⟩
  | 84 => ⟨S256x256x1x1, .f32⟩
  | 85 => ⟨S256x256, .f32⟩
  | 86 => ⟨S256x1000x14x14, .f32⟩
  | 87 => ⟨S1000x256x14x14, .f32⟩
  | 88 => ⟨S1000x256x14x14, .f32⟩
  | 89 => ⟨S1000x256x14x14, .f32⟩
  | 90 => ⟨S256x256x1x1, .f32⟩
  | 91 => ⟨S256x256, .f32⟩
  | 92 => ⟨S256x1000x14x14, .f32⟩
  | 93 => ⟨S1000x256x14x14, .f32⟩
  | 94 => ⟨S1000x256x14x14, .f32⟩
  | 95 => ⟨S1000x256x14x14, .f32⟩
  | 96 => ⟨S256x256x1x1, .f32⟩
  | 97 => ⟨S256x256, .f32⟩
  | 98 => ⟨S256x1000x14x14, .f32⟩
  | 99 => ⟨S1000x256x14x14, .f32⟩
  | 100 => ⟨S1000x256x14x14, .f32⟩
  | 101 => ⟨S1000x256x14x14, .f32⟩
  | 102 => ⟨S256x256x1x1, .f32⟩
  | 103 => ⟨S256x256, .f32⟩
  | 104 => ⟨S256x1000x14x14, .f32⟩
  | 105 => ⟨S1000x256x14x14, .f32⟩
  | 106 => ⟨S1000x256x14x14, .f32⟩
  | 107 => ⟨S1000x256x14x14, .f32⟩
  | 108 => ⟨S256x256x1x1, .f32⟩
  | 109 => ⟨S256x256, .f32⟩
  | 110 => ⟨S256x1000x14x14, .f32⟩
  | 111 => ⟨S1000x256x14x14, .f32⟩
  | 112 => ⟨S1000x256x14x14, .f32⟩
  | 113 => ⟨S1000x256x14x14, .f32⟩
  | 114 => ⟨S256x256x1x1, .f32⟩
  | 115 => ⟨S256x256, .f32⟩
  | 116 => ⟨S256x1000x14x14, .f32⟩
  | 117 => ⟨S1000x256x14x14, .f32⟩
  | 118 => ⟨S1000x256x14x14, .f32⟩
  | 119 => ⟨S1000x256x14x14, .f32⟩
  | 120 => ⟨S256x256x1x1, .f32⟩
  | 121 => ⟨S256x256, .f32⟩
  | 122 => ⟨S256x1000x14x14, .f32⟩
  | 123 => ⟨S1000x256x14x14, .f32⟩
  | 124 => ⟨S1000x256x14x14, .f32⟩
  | 125 => ⟨S1000x256x14x14, .f32⟩
  | 126 => ⟨S256x256x1x1, .f32⟩
  | 127 => ⟨S256x256, .f32⟩
  | _ => ⟨S1000x256x14x14, .f32⟩

abbrev hbmTy0_1 (i : Nat) : BufTy := match i % 128 with
  | 0 => ⟨S256x1000x14x14, .f32⟩
  | 1 => ⟨S1000x256x14x14, .f32⟩
  | 2 => ⟨S1000x256x14x14, .f32⟩
  | 3 => ⟨S1000x256x14x14, .f32⟩
  | 4 => ⟨S256x256x1x1, .f32⟩
  | 5 => ⟨S256x256, .f32⟩
  | 6 => ⟨S256x1000x14x14, .f32⟩
  | 7 => ⟨S1000x256x14x14, .f32⟩
  | 8 => ⟨S1000x256x14x14, .f32⟩
  | 9 => ⟨S1x256x1x1, .f32⟩
  | 10 => ⟨S1000x256x14x14, .f32⟩
  | 11 => ⟨S1000x256x14x14, .f32⟩
  | 12 => ⟨S_, .f32⟩
  | 13 => ⟨S1000x256x14x14, .f32⟩
  | 14 => ⟨S1000x256x14x14, .f32⟩
  | 15 => ⟨S_, .i32⟩
  | 16 => ⟨S_, .f32⟩
  | 17 => ⟨S1000x256x16x16, .f32⟩
  | 18 => ⟨S_, .f32⟩
  | 19 => ⟨S1000x256x14x14, .f32⟩
  | 20 => ⟨S1000x256x14x14, .f32⟩
  | 21 => ⟨S256x256x1x1, .f32⟩
  | 22 => ⟨S256x256, .f32⟩
  | 23 => ⟨S256x1000x14x14, .f32⟩
  | 24 => ⟨S1000x256x14x14, .f32⟩
  | 25 => ⟨S1000x256x14x14, .f32⟩
  | 26 => ⟨S1000x256x14x14, .f32⟩
  | 27 => ⟨S256x256x1x1, .f32⟩
  | 28 => ⟨S256x256, .f32⟩
  | 29 => ⟨S256x1000x14x14, .f32⟩
  | 30 => ⟨S1000x256x14x14, .f32⟩
  | 31 => ⟨S1000x256x14x14, .f32⟩
  | 32 => ⟨S1000x256x14x14, .f32⟩
  | 33 => ⟨S256x256x1x1, .f32⟩
  | 34 => ⟨S256x256, .f32⟩
  | 35 => ⟨S256x1000x14x14, .f32⟩
  | 36 => ⟨S1000x256x14x14, .f32⟩
  | 37 => ⟨S1000x256x14x14, .f32⟩
  | 38 => ⟨S1000x256x14x14, .f32⟩
  | 39 => ⟨S256x256x1x1, .f32⟩
  | 40 => ⟨S256x256, .f32⟩
  | 41 => ⟨S256x1000x14x14, .f32⟩
  | 42 => ⟨S1000x256x14x14, .f32⟩
  | 43 => ⟨S1000x256x14x14, .f32⟩
  | 44 => ⟨S1000x256x14x14, .f32⟩
  | 45 => ⟨S256x256x1x1, .f32⟩
  | 46 => ⟨S256x256, .f32⟩
  | 47 => ⟨S256x1000x14x14, .f32⟩
  | 48 => ⟨S1000x256x14x14, .f32⟩
  | 49 => ⟨S1000x256x14x14, .f32⟩
  | 50 => ⟨S1000x256x14x14, .f32⟩
  | 51 => ⟨S256x256x1x1, .f32⟩
  | 52 => ⟨S256x256, .f32⟩
  | 53 => ⟨S256x1000x14x14, .f32⟩
  | 54 => ⟨S1000x256x14x14, .f32⟩
  | 55 => ⟨S1000x256x14x14, .f32⟩
  | 56 => ⟨S1000x256x14x14, .f32⟩
  | 57 => ⟨S256x256x1x1, .f32⟩
  | 58 => ⟨S256x256, .f32⟩
  | 59 => ⟨S256x1000x14x14, .f32⟩
  | 60 => ⟨S1000x256x14x14, .f32⟩
  | 61 => ⟨S1000x256x14x14, .f32⟩
  | 62 => ⟨S1000x256x14x14, .f32⟩
  | 63 => ⟨S256x256x1x1, .f32⟩
  | 64 => ⟨S256x256, .f32⟩
  | 65 => ⟨S256x1000x14x14, .f32⟩
  | 66 => ⟨S1000x256x14x14, .f32⟩
  | 67 => ⟨S1000x256x14x14, .f32⟩
  | 68 => ⟨S1000x256x14x14, .f32⟩
  | 69 => ⟨S256x256x1x1, .f32⟩
  | 70 => ⟨S256x256, .f32⟩
  | 71 => ⟨S256x1000x14x14, .f32⟩
  | 72 => ⟨S1000x256x14x14, .f32⟩
  | 73 => ⟨S1000x256x14x14, .f32⟩
  | 74 => ⟨S1x256x1x1, .f32⟩
  | 75 => ⟨S1000x256x14x14, .f32⟩
  | 76 => ⟨S1000x256x14x14, .f32⟩
  | 77 => ⟨S_, .f32⟩
  | 78 => ⟨S1000x256x14x14, .f32⟩
  | 79 => ⟨S1000x256x14x14, .f32⟩
  | 80 => ⟨S_, .i32⟩
  | 81 => ⟨S_, .f32⟩
  | 82 => ⟨S1000x256x16x16, .f32⟩
  | 83 => ⟨S_, .f32⟩
  | 84 => ⟨S1000x256x14x14, .f32⟩
  | 85 => ⟨S1000x256x14x14, .f32⟩
  | 86 => ⟨S256x256x1x1, .f32⟩
  | 87 => ⟨S256x256, .f32⟩
  | 88 => ⟨S256x1000x14x14, .f32⟩
  | 89 => ⟨S1000x256x14x14, .f32⟩
  | 90 => ⟨S1000x256x14x14, .f32⟩
  | 91 => ⟨S1000x256x14x14, .f32⟩
  | 92 => ⟨S256x256x1x1, .f32⟩
  | 93 => ⟨S256x256, .f32⟩
  | 94 => ⟨S256x1000x14x14, .f32⟩
  | 95 => ⟨S1000x256x14x14, .f32⟩
  | 96 => ⟨S1000x256x14x14, .f32⟩
  | 97 => ⟨S1000x256x14x14, .f32⟩
  | 98 => ⟨S256x256x1x1, .f32⟩
  | 99 => ⟨S256x256, .f32⟩
  | 100 => ⟨S256x1000x14x14, .f32⟩
  | 101 => ⟨S1000x256x14x14, .f32⟩
  | 102 => ⟨S1000x256x14x14, .f32⟩
  | 103 => ⟨S1000x256x14x14, .f32⟩
  | 104 => ⟨S256x256x1x1, .f32⟩
  | 105 => ⟨S256x256, .f32⟩
  | 106 => ⟨S256x1000x14x14, .f32⟩
  | 107 => ⟨S1000x256x14x14, .f32⟩
  | 108 => ⟨S1000x256x14x14, .f32⟩
  | 109 => ⟨S1000x256x14x14, .f32⟩
  | 110 => ⟨S256x256x1x1, .f32⟩
  | 111 => ⟨S256x256, .f32⟩
  | 112 => ⟨S256x1000x14x14, .f32⟩
  | 113 => ⟨S1000x256x14x14, .f32⟩
  | 114 => ⟨S1000x256x14x14, .f32⟩
  | 115 => ⟨S1000x256x14x14, .f32⟩
  | 116 => ⟨S256x256x1x1, .f32⟩
  | 117 => ⟨S256x256, .f32⟩
  | 118 => ⟨S256x1000x14x14, .f32⟩
  | 119 => ⟨S1000x256x14x14, .f32⟩
  | 120 => ⟨S1000x256x14x14, .f32⟩
  | 121 => ⟨S1000x256x14x14, .f32⟩
  | 122 => ⟨S256x256x1x1, .f32⟩
  | 123 => ⟨S256x256, .f32⟩
  | 124 => ⟨S256x1000x14x14, .f32⟩
  | 125 => ⟨S1000x256x14x14, .f32⟩
  | 126 => ⟨S1000x256x14x14, .f32⟩
  | 127 => ⟨S1000x256x14x14, .f32⟩
  | _ => ⟨S1000x256x14x14, .f32⟩

abbrev hbmTy0_2 (i : Nat) : BufTy := match i % 128 with
  | 0 => ⟨S256x256x1x1, .f32⟩
  | 1 => ⟨S256x256, .f32⟩
  | 2 => ⟨S256x1000x14x14, .f32⟩
  | 3 => ⟨S1000x256x14x14, .f32⟩
  | 4 => ⟨S1000x256x14x14, .f32⟩
  | 5 => ⟨S1000x256x14x14, .f32⟩
  | 6 => ⟨S256x256x1x1, .f32⟩
  | 7 => ⟨S256x256, .f32⟩
  | 8 => ⟨S256x1000x14x14, .f32⟩
  | 9 => ⟨S1000x256x14x14, .f32⟩
  | 10 => ⟨S1000x256x14x14, .f32⟩
  | 11 => ⟨S1x256x1x1, .f32⟩
  | 12 => ⟨S1000x256x14x14, .f32⟩
  | 13 => ⟨S1000x256x14x14, .f32⟩
  | 14 => ⟨S_, .f32⟩
  | 15 => ⟨S1000x256x14x14, .f32⟩
  | 16 => ⟨S1000x256x14x14, .f32⟩
  | 17 => ⟨S256x256x3x3, .f32⟩
  | 18 => ⟨S256x256x3x3, .f32⟩
  | 19 => ⟨S_, .f32⟩
  | 20 => ⟨S1000x256x30x30, .f32⟩
  | 21 => ⟨S_, .f32⟩
  | 22 => ⟨S1000x256x28x28, .f32⟩
  | 23 => ⟨S1000x256x28x28, .f32⟩
  | 24 => ⟨S256x256x1x1, .f32⟩
  | 25 => ⟨S256x256, .f32⟩
  | 26 => ⟨S256x1000x28x28, .f32⟩
  | 27 => ⟨S1000x256x28x28, .f32⟩
  | 28 => ⟨S1000x256x28x28, .f32⟩
  | 29 => ⟨S1000x256x28x28, .f32⟩
  | 30 => ⟨S256x256x1x1, .f32⟩
  | 31 => ⟨S256x256, .f32⟩
  | 32 => ⟨S256x1000x28x28, .f32⟩
  | 33 => ⟨S1000x256x28x28, .f32⟩
  | 34 => ⟨S1000x256x28x28, .f32⟩
  | 35 => ⟨S1000x256x28x28, .f32⟩
  | 36 => ⟨S256x256x1x1, .f32⟩
  | 37 => ⟨S256x256, .f32⟩
  | 38 => ⟨S256x1000x28x28, .f32⟩
  | 39 => ⟨S1000x256x28x28, .f32⟩
  | 40 => ⟨S1000x256x28x28, .f32⟩
  | 41 => ⟨S1000x256x28x28, .f32⟩
  | 42 => ⟨S256x256x1x1, .f32⟩
  | 43 => ⟨S256x256, .f32⟩
  | 44 => ⟨S256x1000x28x28, .f32⟩
  | 45 => ⟨S1000x256x28x28, .f32⟩
  | 46 => ⟨S1000x256x28x28, .f32⟩
  | 47 => ⟨S1000x256x28x28, .f32⟩
  | 48 => ⟨S256x256x1x1, .f32⟩
  | 49 => ⟨S256x256, .f32⟩
  | 50 => ⟨S256x1000x28x28, .f32⟩
  | 51 => ⟨S1000x256x28x28, .f32⟩
  | 52 => ⟨S1000x256x28x28, .f32⟩
  | 53 => ⟨S1000x256x28x28, .f32⟩
  | 54 => ⟨S256x256x1x1, .f32⟩
  | 55 => ⟨S256x256, .f32⟩
  | 56 => ⟨S256x1000x28x28, .f32⟩
  | 57 => ⟨S1000x256x28x28, .f32⟩
  | 58 => ⟨S1000x256x28x28, .f32⟩
  | 59 => ⟨S1000x256x28x28, .f32⟩
  | 60 => ⟨S256x256x1x1, .f32⟩
  | 61 => ⟨S256x256, .f32⟩
  | 62 => ⟨S256x1000x28x28, .f32⟩
  | 63 => ⟨S1000x256x28x28, .f32⟩
  | 64 => ⟨S1000x256x28x28, .f32⟩
  | 65 => ⟨S1000x256x28x28, .f32⟩
  | 66 => ⟨S256x256x1x1, .f32⟩
  | 67 => ⟨S256x256, .f32⟩
  | 68 => ⟨S256x1000x28x28, .f32⟩
  | 69 => ⟨S1000x256x28x28, .f32⟩
  | 70 => ⟨S1000x256x28x28, .f32⟩
  | 71 => ⟨S1000x256x28x28, .f32⟩
  | 72 => ⟨S256x256x1x1, .f32⟩
  | 73 => ⟨S256x256, .f32⟩
  | 74 => ⟨S256x1000x28x28, .f32⟩
  | 75 => ⟨S1000x256x28x28, .f32⟩
  | 76 => ⟨S1000x256x28x28, .f32⟩
  | 77 => ⟨S1x256x1x1, .f32⟩
  | 78 => ⟨S1000x256x28x28, .f32⟩
  | 79 => ⟨S1000x256x28x28, .f32⟩
  | 80 => ⟨S_, .f32⟩
  | 81 => ⟨S1000x256x28x28, .f32⟩
  | 82 => ⟨S1000x256x28x28, .f32⟩
  | 83 => ⟨S3x256, .f32⟩
  | 84 => ⟨S3x1000x28x28, .f32⟩
  | 85 => ⟨S1000x3x28x28, .f32⟩
  | 86 => ⟨S1x3x1x1, .f32⟩
  | 87 => ⟨S1000x3x28x28, .f32⟩
  | 88 => ⟨S1000x3x28x28, .f32⟩
  | 89 => ⟨S1000x3x28x28, .f32⟩
  | 90 => ⟨S1000x3x28x28, .f32⟩
  | 91 => ⟨S_, .f32⟩
  | 92 => ⟨S1000x3x28x28, .f32⟩
  | 93 => ⟨S1000x3x28x28, .f32⟩
  | 94 => ⟨S_, .f32⟩
  | 95 => ⟨S1000x3x28x28, .f32⟩
  | 96 => ⟨S1000x3x28x28, .f32⟩
  | _ => ⟨S1000x256x14x14, .f32⟩

abbrev hbmTy (i : Nat) : BufTy := match i / 128 with
  | 0 => hbmTy0_0 i
  | 1 => hbmTy0_1 i
  | 2 => hbmTy0_2 i
  | _ => ⟨S1000x256x14x14, .f32⟩

abbrev bufTy : (tb : Table) → Fin (tcTables nBuf tb) → BufTy
  | .hbm, ⟨i, _⟩ => hbmTy i
  | _, _ => ⟨S1000x256x14x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_call0_v0 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_call1_cst : Ref sig .tc := ⟨.hbm, 75, rfl⟩
abbrev main_call1_v0 : Ref sig .tc := ⟨.hbm, 76, rfl⟩
abbrev main_v59 : Ref sig .tc := ⟨.hbm, 77, rfl⟩
abbrev main_c_0 : Ref sig .tc := ⟨.hbm, 78, rfl⟩
abbrev main_call2_v0 : Ref sig .tc := ⟨.hbm, 79, rfl⟩
abbrev main_v60 : Ref sig .tc := ⟨.hbm, 80, rfl⟩
abbrev main_cst_1 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_call3_cst : Ref sig .tc := ⟨.hbm, 140, rfl⟩
abbrev main_call3_v0 : Ref sig .tc := ⟨.hbm, 141, rfl⟩
abbrev main_v119 : Ref sig .tc := ⟨.hbm, 142, rfl⟩
abbrev main_c_2 : Ref sig .tc := ⟨.hbm, 143, rfl⟩
abbrev main_call4_v0 : Ref sig .tc := ⟨.hbm, 144, rfl⟩
abbrev main_v120 : Ref sig .tc := ⟨.hbm, 145, rfl⟩
abbrev main_cst_3 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_v158 : Ref sig .tc := ⟨.hbm, 184, rfl⟩
abbrev main_v159 : Ref sig .tc := ⟨.hbm, 185, rfl⟩
abbrev main_v160 : Ref sig .tc := ⟨.hbm, 186, rfl⟩
abbrev main_v161 : Ref sig .tc := ⟨.hbm, 187, rfl⟩
abbrev main_v162 : Ref sig .tc := ⟨.hbm, 188, rfl⟩
abbrev main_v163 : Ref sig .tc := ⟨.hbm, 189, rfl⟩
abbrev main_v164 : Ref sig .tc := ⟨.hbm, 190, rfl⟩
abbrev main_v165 : Ref sig .tc := ⟨.hbm, 191, rfl⟩
abbrev main_v166 : Ref sig .tc := ⟨.hbm, 192, rfl⟩
abbrev main_v167 : Ref sig .tc := ⟨.hbm, 193, rfl⟩
abbrev main_v168 : Ref sig .tc := ⟨.hbm, 194, rfl⟩
abbrev main_v169 : Ref sig .tc := ⟨.hbm, 195, rfl⟩
abbrev main_v170 : Ref sig .tc := ⟨.hbm, 196, rfl⟩
abbrev main_v171 : Ref sig .tc := ⟨.hbm, 197, rfl⟩
abbrev main_v172 : Ref sig .tc := ⟨.hbm, 198, rfl⟩
abbrev main_v173 : Ref sig .tc := ⟨.hbm, 199, rfl⟩
abbrev main_v174 : Ref sig .tc := ⟨.hbm, 200, rfl⟩
abbrev main_v175 : Ref sig .tc := ⟨.hbm, 201, rfl⟩
abbrev main_v176 : Ref sig .tc := ⟨.hbm, 202, rfl⟩
abbrev main_v177 : Ref sig .tc := ⟨.hbm, 203, rfl⟩
abbrev main_v178 : Ref sig .tc := ⟨.hbm, 204, rfl⟩
abbrev main_call5_cst : Ref sig .tc := ⟨.hbm, 205, rfl⟩
abbrev main_call5_v0 : Ref sig .tc := ⟨.hbm, 206, rfl⟩
abbrev main_v179 : Ref sig .tc := ⟨.hbm, 207, rfl⟩
abbrev main_c_4 : Ref sig .tc := ⟨.hbm, 208, rfl⟩
abbrev main_call6_v0 : Ref sig .tc := ⟨.hbm, 209, rfl⟩
abbrev main_v180 : Ref sig .tc := ⟨.hbm, 210, rfl⟩
abbrev main_cst_5 : Ref sig .tc := ⟨.hbm, 211, rfl⟩
abbrev main_v181 : Ref sig .tc := ⟨.hbm, 212, rfl⟩
abbrev main_v182 : Ref sig .tc := ⟨.hbm, 213, rfl⟩
abbrev main_v183 : Ref sig .tc := ⟨.hbm, 214, rfl⟩
abbrev main_v184 : Ref sig .tc := ⟨.hbm, 215, rfl⟩
abbrev main_v185 : Ref sig .tc := ⟨.hbm, 216, rfl⟩
abbrev main_v186 : Ref sig .tc := ⟨.hbm, 217, rfl⟩
abbrev main_v187 : Ref sig .tc := ⟨.hbm, 218, rfl⟩
abbrev main_v188 : Ref sig .tc := ⟨.hbm, 219, rfl⟩
abbrev main_v189 : Ref sig .tc := ⟨.hbm, 220, rfl⟩
abbrev main_v190 : Ref sig .tc := ⟨.hbm, 221, rfl⟩
abbrev main_v191 : Ref sig .tc := ⟨.hbm, 222, rfl⟩
abbrev main_v192 : Ref sig .tc := ⟨.hbm, 223, rfl⟩
abbrev main_v193 : Ref sig .tc := ⟨.hbm, 224, rfl⟩
abbrev main_v194 : Ref sig .tc := ⟨.hbm, 225, rfl⟩
abbrev main_v195 : Ref sig .tc := ⟨.hbm, 226, rfl⟩
abbrev main_v196 : Ref sig .tc := ⟨.hbm, 227, rfl⟩
abbrev main_v197 : Ref sig .tc := ⟨.hbm, 228, rfl⟩
abbrev main_v198 : Ref sig .tc := ⟨.hbm, 229, rfl⟩
abbrev main_v199 : Ref sig .tc := ⟨.hbm, 230, rfl⟩
abbrev main_v200 : Ref sig .tc := ⟨.hbm, 231, rfl⟩
abbrev main_v201 : Ref sig .tc := ⟨.hbm, 232, rfl⟩
abbrev main_v202 : Ref sig .tc := ⟨.hbm, 233, rfl⟩
abbrev main_v203 : Ref sig .tc := ⟨.hbm, 234, rfl⟩
abbrev main_v204 : Ref sig .tc := ⟨.hbm, 235, rfl⟩
abbrev main_v205 : Ref sig .tc := ⟨.hbm, 236, rfl⟩
abbrev main_v206 : Ref sig .tc := ⟨.hbm, 237, rfl⟩
abbrev main_v207 : Ref sig .tc := ⟨.hbm, 238, rfl⟩
abbrev main_v208 : Ref sig .tc := ⟨.hbm, 239, rfl⟩
abbrev main_v209 : Ref sig .tc := ⟨.hbm, 240, rfl⟩
abbrev main_v210 : Ref sig .tc := ⟨.hbm, 241, rfl⟩
abbrev main_v211 : Ref sig .tc := ⟨.hbm, 242, rfl⟩
abbrev main_v212 : Ref sig .tc := ⟨.hbm, 243, rfl⟩
abbrev main_v213 : Ref sig .tc := ⟨.hbm, 244, rfl⟩
abbrev main_v214 : Ref sig .tc := ⟨.hbm, 245, rfl⟩
abbrev main_v215 : Ref sig .tc := ⟨.hbm, 246, rfl⟩
abbrev main_v216 : Ref sig .tc := ⟨.hbm, 247, rfl⟩
abbrev main_v217 : Ref sig .tc := ⟨.hbm, 248, rfl⟩
abbrev main_v218 : Ref sig .tc := ⟨.hbm, 249, rfl⟩
abbrev main_v219 : Ref sig .tc := ⟨.hbm, 250, rfl⟩
abbrev main_v220 : Ref sig .tc := ⟨.hbm, 251, rfl⟩
abbrev main_v221 : Ref sig .tc := ⟨.hbm, 252, rfl⟩
abbrev main_v222 : Ref sig .tc := ⟨.hbm, 253, rfl⟩
abbrev main_v223 : Ref sig .tc := ⟨.hbm, 254, rfl⟩
abbrev main_v224 : Ref sig .tc := ⟨.hbm, 255, rfl⟩
abbrev main_v225 : Ref sig .tc := ⟨.hbm, 256, rfl⟩
abbrev main_v226 : Ref sig .tc := ⟨.hbm, 257, rfl⟩
abbrev main_v227 : Ref sig .tc := ⟨.hbm, 258, rfl⟩
abbrev main_v228 : Ref sig .tc := ⟨.hbm, 259, rfl⟩
abbrev main_v229 : Ref sig .tc := ⟨.hbm, 260, rfl⟩
abbrev main_v230 : Ref sig .tc := ⟨.hbm, 261, rfl⟩
abbrev main_v231 : Ref sig .tc := ⟨.hbm, 262, rfl⟩
abbrev main_v232 : Ref sig .tc := ⟨.hbm, 263, rfl⟩
abbrev main_v233 : Ref sig .tc := ⟨.hbm, 264, rfl⟩
abbrev main_v234 : Ref sig .tc := ⟨.hbm, 265, rfl⟩
abbrev main_v235 : Ref sig .tc := ⟨.hbm, 266, rfl⟩
abbrev main_v236 : Ref sig .tc := ⟨.hbm, 267, rfl⟩
abbrev main_v237 : Ref sig .tc := ⟨.hbm, 268, rfl⟩
abbrev main_v238 : Ref sig .tc := ⟨.hbm, 269, rfl⟩
abbrev main_call7_cst : Ref sig .tc := ⟨.hbm, 270, rfl⟩
abbrev main_call7_v0 : Ref sig .tc := ⟨.hbm, 271, rfl⟩
abbrev main_v239 : Ref sig .tc := ⟨.hbm, 272, rfl⟩
abbrev main_v240 : Ref sig .tc := ⟨.hbm, 273, rfl⟩
abbrev main_v241 : Ref sig .tc := ⟨.hbm, 274, rfl⟩
abbrev main_cst_6 : Ref sig .tc := ⟨.hbm, 275, rfl⟩
abbrev main_v242 : Ref sig .tc := ⟨.hbm, 276, rfl⟩
abbrev main_cst_7 : Ref sig .tc := ⟨.hbm, 277, rfl⟩
abbrev main_v243 : Ref sig .tc := ⟨.hbm, 278, rfl⟩
abbrev main_v244 : Ref sig .tc := ⟨.hbm, 279, rfl⟩
abbrev main_v245 : Ref sig .tc := ⟨.hbm, 280, rfl⟩
abbrev main_v246 : Ref sig .tc := ⟨.hbm, 281, rfl⟩
abbrev main_v247 : Ref sig .tc := ⟨.hbm, 282, rfl⟩
abbrev main_v248 : Ref sig .tc := ⟨.hbm, 283, rfl⟩
abbrev main_v249 : Ref sig .tc := ⟨.hbm, 284, rfl⟩
abbrev main_v250 : Ref sig .tc := ⟨.hbm, 285, rfl⟩
abbrev main_v251 : Ref sig .tc := ⟨.hbm, 286, rfl⟩
abbrev main_v252 : Ref sig .tc := ⟨.hbm, 287, rfl⟩
abbrev main_v253 : Ref sig .tc := ⟨.hbm, 288, rfl⟩
abbrev main_v254 : Ref sig .tc := ⟨.hbm, 289, rfl⟩
abbrev main_v255 : Ref sig .tc := ⟨.hbm, 290, rfl⟩
abbrev main_v256 : Ref sig .tc := ⟨.hbm, 291, rfl⟩
abbrev main_v257 : Ref sig .tc := ⟨.hbm, 292, rfl⟩
abbrev main_v258 : Ref sig .tc := ⟨.hbm, 293, rfl⟩
abbrev main_v259 : Ref sig .tc := ⟨.hbm, 294, rfl⟩
abbrev main_v260 : Ref sig .tc := ⟨.hbm, 295, rfl⟩
abbrev main_v261 : Ref sig .tc := ⟨.hbm, 296, rfl⟩
abbrev main_v262 : Ref sig .tc := ⟨.hbm, 297, rfl⟩
abbrev main_v263 : Ref sig .tc := ⟨.hbm, 298, rfl⟩
abbrev main_v264 : Ref sig .tc := ⟨.hbm, 299, rfl⟩
abbrev main_v265 : Ref sig .tc := ⟨.hbm, 300, rfl⟩
abbrev main_v266 : Ref sig .tc := ⟨.hbm, 301, rfl⟩
abbrev main_v267 : Ref sig .tc := ⟨.hbm, 302, rfl⟩
abbrev main_v268 : Ref sig .tc := ⟨.hbm, 303, rfl⟩
abbrev main_v269 : Ref sig .tc := ⟨.hbm, 304, rfl⟩
abbrev main_v270 : Ref sig .tc := ⟨.hbm, 305, rfl⟩
abbrev main_v271 : Ref sig .tc := ⟨.hbm, 306, rfl⟩
abbrev main_v272 : Ref sig .tc := ⟨.hbm, 307, rfl⟩
abbrev main_v273 : Ref sig .tc := ⟨.hbm, 308, rfl⟩
abbrev main_v274 : Ref sig .tc := ⟨.hbm, 309, rfl⟩
abbrev main_v275 : Ref sig .tc := ⟨.hbm, 310, rfl⟩
abbrev main_v276 : Ref sig .tc := ⟨.hbm, 311, rfl⟩
abbrev main_v277 : Ref sig .tc := ⟨.hbm, 312, rfl⟩
abbrev main_v278 : Ref sig .tc := ⟨.hbm, 313, rfl⟩
abbrev main_v279 : Ref sig .tc := ⟨.hbm, 314, rfl⟩
abbrev main_v280 : Ref sig .tc := ⟨.hbm, 315, rfl⟩
abbrev main_v281 : Ref sig .tc := ⟨.hbm, 316, rfl⟩
abbrev main_v282 : Ref sig .tc := ⟨.hbm, 317, rfl⟩
abbrev main_v283 : Ref sig .tc := ⟨.hbm, 318, rfl⟩
abbrev main_v284 : Ref sig .tc := ⟨.hbm, 319, rfl⟩
abbrev main_v285 : Ref sig .tc := ⟨.hbm, 320, rfl⟩
abbrev main_v286 : Ref sig .tc := ⟨.hbm, 321, rfl⟩
abbrev main_v287 : Ref sig .tc := ⟨.hbm, 322, rfl⟩
abbrev main_v288 : Ref sig .tc := ⟨.hbm, 323, rfl⟩
abbrev main_v289 : Ref sig .tc := ⟨.hbm, 324, rfl⟩
abbrev main_v290 : Ref sig .tc := ⟨.hbm, 325, rfl⟩
abbrev main_v291 : Ref sig .tc := ⟨.hbm, 326, rfl⟩
abbrev main_v292 : Ref sig .tc := ⟨.hbm, 327, rfl⟩
abbrev main_v293 : Ref sig .tc := ⟨.hbm, 328, rfl⟩
abbrev main_v294 : Ref sig .tc := ⟨.hbm, 329, rfl⟩
abbrev main_v295 : Ref sig .tc := ⟨.hbm, 330, rfl⟩
abbrev main_v296 : Ref sig .tc := ⟨.hbm, 331, rfl⟩
abbrev main_v297 : Ref sig .tc := ⟨.hbm, 332, rfl⟩
abbrev main_v298 : Ref sig .tc := ⟨.hbm, 333, rfl⟩
abbrev main_v299 : Ref sig .tc := ⟨.hbm, 334, rfl⟩
abbrev main_v300 : Ref sig .tc := ⟨.hbm, 335, rfl⟩
abbrev main_call9_cst : Ref sig .tc := ⟨.hbm, 336, rfl⟩
abbrev main_call9_v0 : Ref sig .tc := ⟨.hbm, 337, rfl⟩
abbrev main_v301 : Ref sig .tc := ⟨.hbm, 338, rfl⟩
abbrev main_v302 : Ref sig .tc := ⟨.hbm, 339, rfl⟩
abbrev main_v303 : Ref sig .tc := ⟨.hbm, 340, rfl⟩
abbrev main_v304 : Ref sig .tc := ⟨.hbm, 341, rfl⟩
abbrev main_v305 : Ref sig .tc := ⟨.hbm, 342, rfl⟩
abbrev main_v306 : Ref sig .tc := ⟨.hbm, 343, rfl⟩
abbrev main_v307 : Ref sig .tc := ⟨.hbm, 344, rfl⟩
abbrev main_v308 : Ref sig .tc := ⟨.hbm, 345, rfl⟩
abbrev main_v309 : Ref sig .tc := ⟨.hbm, 346, rfl⟩
abbrev main_cst_8 : Ref sig .tc := ⟨.hbm, 347, rfl⟩
abbrev main_v310 : Ref sig .tc := ⟨.hbm, 348, rfl⟩
abbrev main_v311 : Ref sig .tc := ⟨.hbm, 349, rfl⟩
abbrev main_cst_9 : Ref sig .tc := ⟨.hbm, 350, rfl⟩
abbrev main_v312 : Ref sig .tc := ⟨.hbm, 351, rfl⟩
abbrev main_v313 : Ref sig .tc := ⟨.hbm, 352, rfl⟩

abbrev nD : Nat := 1
abbrev τ : Topo := Topo.v7x

variable {F : FTy → Type} [FloatOps F]
-- ==== Proof.Block.lean ====
/-
  What the kernel body does to four images, written as a few functions applied one after the other. Every function
  below is one stretch of the body, over any float instance; the body's two halves (images 0 to 3 and images 4 to 7 of
  a block) are the same composition (`Outputs.lean`).

  The body holds four images as 1024 rows of 256 channels: image `n`, height `i`, width `j` is row `256 n + 16 i + j`,
  and the rows with `i` or `j` equal to 14 or 15 hold zeros.
-/
module

public import proofs.«01_k».proof.Proof.Gen.KernelIdeal.Skeleton

@[expose] public section

noncomputable section

namespace Cert.KernelIdeal.Block

open Idealize.ShloMosaic Idealize.SL.Sem
open Cert.KernelIdeal Cert.KernelIdeal.Gen

variable {F : FTy → Type} [FloatOps F]

/-- The zero accumulator of a product with 256 columns. -/
def acc0 : FVec F S1024x256 .f32 := constant S1024x256 .f32 0x00000000#32

/-- The four images' pixels spread over the 16 by 16 grid: channel rows times the 0/1 matrix `s`. -/
def spread (x : FVec F S4x256x196 .f32) (s : FVec F S196x256 .bf16) : FVec F S4x256x256 .bf16 :=
  shapeCast S4x256x256
    (truncf .bf16 (matmul dot_S1024x196_S196x256_S1024x256_1_0_0_1_n_n none
      (truncf .bf16 (shapeCast S1024x196 x shapeCasts_S4x256x196_S1024x196) bitsLt_bf16_f32) s acc0) bitsLt_bf16_f32)
    shapeCasts_S1024x256_S4x256x256

/-- One image turned from channel rows to pixel rows, by a product with the identity matrix. -/
def turn (p : FVec F S1x256x256 .bf16) (e : FVec F S256x256 .bf16) : FVec F S256x256 .bf16 :=
  truncf .bf16 (matmul dot_S256x256_S256x256_S256x256_0_0_1_1_n_n none
    (shapeCast S256x256 p shapeCasts_S1x256x256_S256x256) e (constant S256x256 .f32 0x00000000#32)) bitsLt_bf16_f32

/-- The rows the first layer reads: the four images' pixel rows, one after the other. -/
def entry (x : FVec F S4x256x196 .f32) (s : FVec F S196x256 .bf16) (e : FVec F S256x256 .bf16) :
    FVec F S1024x256 .bf16 :=
  concatenate S1024x256 0
    [⟨S256x256, turn (extractStridedSlice S1x256x256 ![0, 0, 0] (spread x s) slices_S4x256x256_o0_0_0_S1x256x256) e⟩,
     ⟨S256x256, turn (extractStridedSlice S1x256x256 ![1, 0, 0] (spread x s) slices_S4x256x256_o1_0_0_S1x256x256) e⟩,
     ⟨S256x256, turn (extractStridedSlice S1x256x256 ![2, 0, 0] (spread x s) slices_S4x256x256_o2_0_0_S1x256x256) e⟩,
     ⟨S256x256, turn (extractStridedSlice S1x256x256 ![3, 0, 0] (spread x s) slices_S4x256x256_o3_0_0_S1x256x256) e⟩]
    concatenates_S256x256_S256x256_S256x256_S256x256_S1024x256_d0

/-- Sixteen rows of zeros. -/
def zrows : FVec F S16x256 .bf16 := broadcast S16x256 (Scalar.sitofp .bf16 0#32)

/-- The 1024 rows with sixteen zero rows before and after. -/
def padded (h : FVec F S1024x256 .bf16) : FVec F S1056x256 .bf16 :=
  concatenate S1056x256 0
    [⟨S1040x256, concatenate S1040x256 0 [⟨S16x256, zrows⟩, ⟨S1024x256, h⟩] concatenates_S16x256_S1024x256_S1040x256_d0⟩,
     ⟨S16x256, zrows⟩] concatenates_S1040x256_S16x256_S1056x256_d0

/-- Beside each padded row its predecessor and its successor: the three horizontal taps. -/
def wide3 (hp : FVec F S1056x256 .bf16) : FVec F S1056x768 .bf16 :=
  concatenate S1056x768 1
    [⟨S1056x256, dynamicRotate 0 1#32 none hp rotates_S1056x256_d0⟩, ⟨S1056x256, hp⟩,
     ⟨S1056x256, dynamicRotate 0 1055#32 none hp rotates_S1056x256_d0⟩]
    concatenates_S1056x256_S1056x256_S1056x256_S1056x768_d1

/-- Beside each padded row its successor: the two horizontal taps of the strided transpose. -/
def wide2 (hp : FVec F S1056x256 .bf16) : FVec F S1056x512 .bf16 :=
  concatenate S1056x512 1
    [⟨S1056x256, hp⟩, ⟨S1056x256, dynamicRotate 0 1055#32 none hp rotates_S1056x256_d0⟩]
    concatenates_S1056x256_S1056x256_S1056x512_d1

/-- One vertical tap of a layer: rows `v` times one tap's weights. -/
def tap3 (v : FVec F S1024x768 .bf16) (w : FVec F S1x768x256 .bf16) : FVec F S1024x256 .f32 :=
  matmul dot_S1024x768_S768x256_S1024x256_1_0_0_1_n_n none v (shapeCast S768x256 w shapeCasts_S1x768x256_S768x256) acc0

/-- The sums of a 3 by 3 layer: the three vertical taps added. -/
def sums (q : FVec F S1056x768 .bf16) (w : FVec F S3x768x256 .bf16) : FVec F S1024x256 .f32 :=
  addf (addf
    (tap3 (extractStridedSlice S1024x768 ![0, 0] q slices_S1056x768_o0_0_S1024x768)
      (extractStridedSlice S1x768x256 ![0, 0, 0] w slices_S3x768x256_o0_0_0_S1x768x256))
    (tap3 (extractStridedSlice S1024x768 ![16, 0] q slices_S1056x768_o16_0_S1024x768)
      (extractStridedSlice S1x768x256 ![1, 0, 0] w slices_S3x768x256_o1_0_0_S1x768x256)))
    (tap3 (extractStridedSlice S1024x768 ![32, 0] q slices_S1056x768_o32_0_S1024x768)
      (extractStridedSlice S1x768x256 ![2, 0, 0] w slices_S3x768x256_o2_0_0_S1x768x256))

/-- Bias and the larger of the sum and zero. -/
def relu (d : FVec F S1024x256 .f32) (b : FVec F S1x256 .f32) : FVec F S1024x256 .bf16 :=
  truncf .bf16 (maximumf (addf d (broadcastTo S1024x256 b broadcasts_S1x256_S1024x256))
    (broadcast S1024x256 (Scalar.ofBits .f32 0x00000000#32))) bitsLt_bf16_f32

/-- One 3 by 3 layer on the rows, its result set to zero on the rows outside the images. -/
def layer (mk : FVec F S1024x1 .bf16) (w : FVec F S3x768x256 .bf16) (b : FVec F S1x256 .f32)
    (h : FVec F S1024x256 .bf16) : FVec F S1024x256 .bf16 :=
  mulf (relu (sums (wide3 (padded h)) w) b) (broadcastTo S1024x256 mk broadcasts_S1024x1_S1024x256)

/-- The four layers one after the other. -/
def trunk (mk : FVec F S1024x1 .bf16) (w1 : FVec F S3x768x256 .bf16) (b1 : FVec F S1x256 .f32)
    (w2 : FVec F S3x768x256 .bf16) (b2 : FVec F S1x256 .f32) (w3 : FVec F S3x768x256 .bf16) (b3 : FVec F S1x256 .f32)
    (w4 : FVec F S3x768x256 .bf16) (b4 : FVec F S1x256 .f32) (h : FVec F S1024x256 .bf16) : FVec F S1024x256 .bf16 :=
  layer mk w4 b4 (layer mk w3 b3 (layer mk w2 b2 (layer mk w1 b1 h)))

/-- The rows, each beside its successor. -/
def here (h : FVec F S1024x256 .bf16) : FVec F S1024x512 .bf16 :=
  extractStridedSlice S1024x512 ![16, 0] (wide2 (padded h)) slices_S1056x512_o16_0_S1024x512

/-- The rows one image line below, each beside its successor. -/
def below (h : FVec F S1024x256 .bf16) : FVec F S1024x512 .bf16 :=
  extractStridedSlice S1024x512 ![32, 0] (wide2 (padded h)) slices_S1056x512_o32_0_S1024x512

/-- The first of the two column halves. -/
def left (v : FVec F S1024x512 .bf16) : FVec F S1024x256 .bf16 :=
  extractStridedSlice S1024x256 ![0, 0] v slices_S1024x512_o0_0_S1024x256

/-- The sums of the transposed layer at even rows and even columns. -/
def sumEE (h : FVec F S1024x256 .bf16) (w : FVec F S256x256 .bf16) : FVec F S1024x256 .f32 :=
  matmul dot_S1024x256_S256x256_S1024x256_1_0_0_1_n_n none (left (here h)) w acc0

/-- The sums of the transposed layer at even rows and odd columns. -/
def sumEO (h : FVec F S1024x256 .bf16) (w : FVec F S512x256 .bf16) : FVec F S1024x256 .f32 :=
  matmul dot_S1024x512_S512x256_S1024x256_1_0_0_1_n_n none (here h) w acc0

/-- The sums of the transposed layer at odd rows and even columns. -/
def sumOE (h : FVec F S1024x256 .bf16) (w : FVec F S2x256x256 .bf16) : FVec F S1024x256 .f32 :=
  addf
    (matmul dot_S1024x256_S256x256_S1024x256_1_0_0_1_n_n none (left (here h))
      (shapeCast S256x256 (extractStridedSlice S1x256x256 ![0, 0, 0] w slices_S2x256x256_o0_0_0_S1x256x256)
        shapeCasts_S1x256x256_S256x256) acc0)
    (matmul dot_S1024x256_S256x256_S1024x256_1_0_0_1_n_n none (left (below h))
      (shapeCast S256x256 (extractStridedSlice S1x256x256 ![1, 0, 0] w slices_S2x256x256_o1_0_0_S1x256x256)
        shapeCasts_S1x256x256_S256x256) acc0)

/-- The sums of the transposed layer at odd rows and odd columns. -/
def sumOO (h : FVec F S1024x256 .bf16) (w : FVec F S2x512x256 .bf16) : FVec F S1024x256 .f32 :=
  addf
    (matmul dot_S1024x512_S512x256_S1024x256_1_0_0_1_n_n none (here h)
      (shapeCast S512x256 (extractStridedSlice S1x512x256 ![0, 0, 0] w slices_S2x512x256_o0_0_0_S1x512x256)
        shapeCasts_S1x512x256_S512x256) acc0)
    (matmul dot_S1024x512_S512x256_S1024x256_1_0_0_1_n_n none (below h)
      (shapeCast S512x256 (extractStridedSlice S1x512x256 ![1, 0, 0] w slices_S2x512x256_o1_0_0_S1x512x256)
        shapeCasts_S1x512x256_S512x256) acc0)

/-- What is stored of one phase's sums: bias, the larger of that and zero, the last product, its bias, the logistic
    function. -/
def head (b : FVec F S1x256 .f32) (w5 : FVec F S256x8 .bf16) (b5 : FVec F S1x8 .f32) (d : FVec F S1024x256 .f32) :
    FVec F S4x256x8 .f32 :=
  shapeCast S4x256x8
    (logistic (addf
      (matmul dot_S1024x256_S256x8_S1024x8_1_0_0_1_n_n none (relu d b) w5 (constant S1024x8 .f32 0x00000000#32))
      (broadcastTo S1024x8 b5 broadcasts_S1x8_S1024x8))) shapeCasts_S1024x8_S4x256x8

/-- Images 0 to 3 of a block of eight. -/
def lower (x : FVec F S8x256x196 .f32) : FVec F S4x256x196 .f32 :=
  extractStridedSlice S4x256x196 ![0, 0, 0] x slices_S8x256x196_o0_0_0_S4x256x196

/-- Images 4 to 7 of a block of eight. -/
def upper (x : FVec F S8x256x196 .f32) : FVec F S4x256x196 .f32 :=
  extractStridedSlice S4x256x196 ![4, 0, 0] x slices_S8x256x196_o4_0_0_S4x256x196

/-- The rows after the four layers, from the loaded operands. -/
def rows (x1 : FVec F S196x256 .bf16) (x2 : FVec F S256x256 .bf16)
    (x3 : FVec F S3x768x256 .bf16) (x4 : FVec F S1x256 .f32) (x5 : FVec F S3x768x256 .bf16) (x6 : FVec F S1x256 .f32)
    (x7 : FVec F S3x768x256 .bf16) (x8 : FVec F S1x256 .f32) (x9 : FVec F S3x768x256 .bf16) (x10 : FVec F S1x256 .f32)
    (x : FVec F S4x256x196 .f32) : FVec F S1024x256 .bf16 :=
  trunk k0_pay24 x3 x4 x5 x6 x7 x8 x9 x10 (entry x x1 x2)

end Cert.KernelIdeal.Block
-- ==== Proof.Spec.lean ====
/-
  The mathematics of the network, over the extended reals: a 3 by 3 layer on an image continued by zero, the transposed
  layer of stride two, the last product with the logistic function. Images are functions of a channel and two integer
  coordinates that vanish outside the 14 by 14 square.
-/
module

public import Mathlib.Data.EReal.Operations
public import Mathlib.Algebra.BigOperators.Fin
public import Mathlib.Data.Fintype.BigOperators

@[expose] public section

noncomputable section

namespace Cert.Spec

/-- An image of 256 channels, continued by zero to all integer coordinates. -/
abbrev Act := Fin 256 → ℤ → ℤ → EReal

/-- The coordinates lie in the 14 by 14 square. -/
abbrev Inb (i j : ℤ) : Prop := 0 ≤ i ∧ i < 14 ∧ 0 ≤ j ∧ j < 14

/-- The image vanishes outside the square. -/
def Cut (a : Act) : Prop := ∀ c i j, ¬ Inb i j → a c i j = 0

/-- A 3 by 3 layer: weights `w o c ky kx`, bias `b`, the larger of the sum and zero, on the square. -/
def conv (w : Fin 256 → Fin 256 → Fin 3 → Fin 3 → EReal) (b : Fin 256 → EReal) (a : Act) : Act := fun o i j =>
  if Inb i j then
    max ((∑ ky : Fin 3, ∑ kx : Fin 3, ∑ c : Fin 256, a c (i + (ky.val : ℤ) - 1) (j + (kx.val : ℤ) - 1) * w o c ky kx)
      + b o) 0
  else 0

/-- A layer's result vanishes outside the square. -/
theorem conv_cut (w : Fin 256 → Fin 256 → Fin 3 → Fin 3 → EReal) (b : Fin 256 → EReal) (a : Act) :
    Cut (conv w b a) := fun _ _ _ h => if_neg h

/-- An image with zeros put between its pixels and one line of zeros before. -/
def dil (a : ℤ → ℤ → EReal) (p q : ℤ) : EReal :=
  if p % 2 = 1 ∧ q % 2 = 1 then a (p / 2) (q / 2) else 0

/-- The transposed layer's sums at row `y`, column `x`: weights `v o c ky kx` on the image with zeros between. -/
def up (v : Fin 256 → Fin 256 → Fin 3 → Fin 3 → EReal) (a : Act) (o : Fin 256) (y x : ℤ) : EReal :=
  ∑ ky : Fin 3, ∑ kx : Fin 3, ∑ c : Fin 256, dil (a c) (y + (ky.val : ℤ)) (x + (kx.val : ℤ)) * v o c ky kx

/-- The result at class `k`, from the transposed layer's sums `d`, before the logistic function. -/
def score (bt : Fin 256 → EReal) (w5 : Fin 256 → EReal) (b5 : EReal) (d : Fin 256 → EReal) : EReal :=
  (∑ o : Fin 256, max (d o + bt o) 0 * w5 o) + b5

/-- One tap's sum over the channels. -/
def tap (v : Fin 256 → Fin 256 → Fin 3 → Fin 3 → EReal) (a : Act) (o : Fin 256) (ky kx : Fin 3) (i j : ℤ) : EReal :=
  ∑ c : Fin 256, a c i j * v o c ky kx

/-- A tap at an odd place of the image with zeros between reads a pixel. -/
theorem sum_dil_odd (v : Fin 256 → Fin 256 → Fin 3 → Fin 3 → EReal) (a : Act) (o : Fin 256) (ky kx : Fin 3)
    (p q i j : ℤ) (hp : p = 2 * i + 1) (hq : q = 2 * j + 1) :
    (∑ c : Fin 256, dil (a c) p q * v o c ky kx) = tap v a o ky kx i j := by
  unfold tap
  refine Finset.sum_congr rfl fun c _ => ?_
  rw [dil, if_pos (by omega), show p / 2 = i by omega, show q / 2 = j by omega]

/-- A tap at a place with an even coordinate reads a zero. -/
theorem sum_dil_even (v : Fin 256 → Fin 256 → Fin 3 → Fin 3 → EReal) (a : Act) (o : Fin 256) (ky kx : Fin 3)
    (p q : ℤ) (h : p % 2 = 0 ∨ q % 2 = 0) :
    (∑ c : Fin 256, dil (a c) p q * v o c ky kx) = 0 := by
  refine Finset.sum_eq_zero fun c _ => ?_
  rw [dil, if_neg (by omega), zero_mul]

/-- At even row and even column one tap remains. -/
theorem up_ee (v : Fin 256 → Fin 256 → Fin 3 → Fin 3 → EReal) (a : Act) (o : Fin 256) (i j : ℤ) :
    up v a o (2 * i) (2 * j) = tap v a o 1 1 i j := by
  unfold up
  simp only [Fin.sum_univ_three]
  rw [sum_dil_odd v a o 1 1 _ _ i j (by simp) (by simp)]
  repeat rw [sum_dil_even v a o _ _ _ _ (by simp)]
  simp

/-- At even row and odd column two taps remain. -/
theorem up_eo (v : Fin 256 → Fin 256 → Fin 3 → Fin 3 → EReal) (a : Act) (o : Fin 256) (i j : ℤ) :
    up v a o (2 * i) (2 * j + 1) = tap v a o 1 0 i j + tap v a o 1 2 i (j + 1) := by
  unfold up
  simp only [Fin.sum_univ_three]
  rw [sum_dil_odd v a o 1 0 _ _ i j (by simp) (by simp),
    sum_dil_odd v a o 1 2 _ _ i (j + 1) (by simp) (by simp; ring)]
  repeat rw [sum_dil_even v a o _ _ _ _ (by simp <;> omega)]
  simp

/-- At odd row and even column two taps remain. -/
theorem up_oe (v : Fin 256 → Fin 256 → Fin 3 → Fin 3 → EReal) (a : Act) (o : Fin 256) (i j : ℤ) :
    up v a o (2 * i + 1) (2 * j) = tap v a o 0 1 i j + tap v a o 2 1 (i + 1) j := by
  unfold up
  simp only [Fin.sum_univ_three]
  rw [sum_dil_odd v a o 0 1 _ _ i j (by simp) (by simp),
    sum_dil_odd v a o 2 1 _ _ (i + 1) j (by simp; ring) (by simp)]
  repeat rw [sum_dil_even v a o _ _ _ _ (by simp <;> omega)]
  simp

/-- At odd row and odd column four taps remain. -/
theorem up_oo (v : Fin 256 → Fin 256 → Fin 3 → Fin 3 → EReal) (a : Act) (o : Fin 256) (i j : ℤ) :
    up v a o (2 * i + 1) (2 * j + 1) =
      (tap v a o 0 0 i j + tap v a o 0 2 i (j + 1)) + (tap v a o 2 0 (i + 1) j + tap v a o 2 2 (i + 1) (j + 1)) := by
  unfold up
  simp only [Fin.sum_univ_three]
  rw [sum_dil_odd v a o 0 0 _ _ i j (by simp) (by simp),
    sum_dil_odd v a o 0 2 _ _ i (j + 1) (by simp) (by simp; ring),
    sum_dil_odd v a o 2 0 _ _ (i + 1) j (by simp; ring) (by simp),
    sum_dil_odd v a o 2 2 _ _ (i + 1) (j + 1) (by simp; ring) (by simp; ring)]
  repeat rw [sum_dil_even v a o _ _ _ _ (by simp <;> omega)]
  simp

/-- A sum over `m n` places, place `n a + b` taken as the pair `(a, b)`. -/
theorem sum_pairs {m n N : ℕ} (hN : N = m * n) (f : Fin N → EReal) :
    ∑ x, f x = ∑ a : Fin m, ∑ b : Fin n, f ⟨n * a.val + b.val, by
      subst hN
      calc n * a.val + b.val < n * a.val + n := by omega
        _ = n * (a.val + 1) := by ring
        _ ≤ n * m := Nat.mul_le_mul_left _ a.isLt
        _ = m * n := Nat.mul_comm _ _⟩ := by
  subst hN
  rw [← finProdFinEquiv.sum_comp, Fintype.sum_prod_type]
  refine Finset.sum_congr rfl fun a _ => Finset.sum_congr rfl fun b _ => congrArg f (Fin.ext ?_)
  simp [finProdFinEquiv, Nat.add_comm]

end Cert.Spec
-- ==== Proof.Layer.lean ====
/-
  One layer of the body at an index: on rows that hold four images with zeros around them, the body's layer computes the
  3 by 3 layer of `Spec.lean` on each image.
-/
module

public import proofs.«01_k».proof.Proof.Block
public import proofs.«01_k».proof.Proof.Spec
public import Idealize.ShloMosaic.Lib.Pointwise

@[expose] public section

set_option maxRecDepth 16384

noncomputable section

namespace Cert.KernelIdeal.Block

open Idealize.ShloMosaic Idealize.SL.Sem
open Cert.KernelIdeal Cert.KernelIdeal.Gen Cert.Spec

/-- Row `z` of the 1024 rows, zero where there is no such row. -/
def rowAt (h : FVec Ideal S1024x256 .bf16) (z : ℤ) (c : Fin 256) : EReal :=
  if hz : 0 ≤ z ∧ z < 1024 then h (ix2 ⟨z.toNat, by omega⟩ c) else 0

/-- A row read at a row number of the array. -/
theorem rowAt_of {h : FVec Ideal S1024x256 .bf16} {z : ℤ} {c : Fin 256} (r : Fin 1024) (hr : z = r.val) :
    rowAt h z c = h (ix2 r c) := by
  subst hr
  rw [rowAt, dif_pos (by omega)]
  congr 1

/-- A row number before the first or after the last reads zero. -/
theorem rowAt_out {h : FVec Ideal S1024x256 .bf16} {z : ℤ} {c : Fin 256} (hz : z < 0 ∨ 1024 ≤ z) :
    rowAt h z c = 0 := by
  rw [rowAt, dif_neg (by omega)]

/-- The padded rows are the rows, moved by sixteen, and zero outside. -/
theorem padded_apply (h : FVec Ideal S1024x256 .bf16) (q : Fin 1056) (c : Fin 256) :
    padded h (ix2 q c) = rowAt h ((q.val : ℤ) - 16) c := by
  pointwise [padded, zrows]
  split
  · split
    · rw [rowAt_out (by omega)]; simp
    · rw [rowAt_of ⟨q.val - 16, by omega⟩ (by simp only []; omega)]
  · rw [rowAt_out (by omega)]; simp

/-- Column block `kx` of the three taps is the row `kx - 1` further on. -/
theorem wide3_apply (h : FVec Ideal S1024x256 .bf16) (q : Fin 1056) (kx : Fin 3) (c : Fin 256) (k : Fin 768)
    (hk : k.val = 256 * kx.val + c.val) :
    wide3 (padded h) (ix2 q k) = rowAt h ((q.val : ℤ) - 17 + kx.val) c := by
  pointwise [wide3]
  have hc := c.isLt
  have hx := kx.isLt
  by_cases h1 : k.val < 256
  · rw [dif_pos h1, padded_apply, show (⟨k.val, h1⟩ : Fin 256) = c from Fin.ext (by simp only []; omega)]
    by_cases hq : q.val = 0
    · rw [rowAt_out (by simp only [hq]; omega), rowAt_out (by omega)]
    · congr 1
      simp only []
      omega
  · by_cases h2 : k.val - 256 < 256
    · rw [dif_neg h1, dif_pos h2, padded_apply,
        show (⟨k.val - 256, h2⟩ : Fin 256) = c from Fin.ext (by simp only []; omega)]
      congr 1
      omega
    · rw [dif_neg h1, dif_neg h2, padded_apply, show (⟨k.val - 256 - 256, by omega⟩ : Fin 256) = c from
        Fin.ext (by simp only []; omega)]
      by_cases hq : q.val = 1055
      · rw [rowAt_out (by simp only [hq]; omega), rowAt_out (by omega)]
      · congr 1
        simp only []
        omega

/-- Column block `kx` of the two taps is the row `kx` further on. -/
theorem wide2_apply (h : FVec Ideal S1024x256 .bf16) (q : Fin 1056) (kx : Fin 2) (c : Fin 256) (k : Fin 512)
    (hk : k.val = 256 * kx.val + c.val) :
    wide2 (padded h) (ix2 q k) = rowAt h ((q.val : ℤ) - 16 + kx.val) c := by
  pointwise [wide2]
  have hc := c.isLt
  have hx := kx.isLt
  by_cases h1 : k.val < 256
  · rw [dif_pos h1, padded_apply, show (⟨k.val, h1⟩ : Fin 256) = c from Fin.ext (by simp only []; omega)]
    congr 1
    omega
  · rw [dif_neg h1, padded_apply, show (⟨k.val - 256, by omega⟩ : Fin 256) = c from
      Fin.ext (by simp only []; omega)]
    by_cases hq : q.val = 1055
    · rw [rowAt_out (by simp only [hq]; omega), rowAt_out (by omega)]
    · congr 1
      simp only []
      omega

/-- The rows hold the images `A 0` to `A 3`. -/
def Holds (A : ℕ → Act) (h : FVec Ideal S1024x256 .bf16) : Prop :=
  ∀ (r : Fin 1024) (c : Fin 256), h (ix2 r c) = A (r.val / 256) c ((r.val / 16 % 16 : ℕ) : ℤ) ((r.val % 16 : ℕ) : ℤ)

/-- A row at most one line and one column away from a pixel is that neighbour, zero outside the image. -/
theorem rowAt_near {A : ℕ → Act} {h : FVec Ideal S1024x256 .bf16} (hh : Holds A h) (hA : ∀ n, Cut (A n))
    (n : ℕ) (i j z : ℤ) (c : Fin 256) (hn : n < 4) (hi : -1 ≤ i ∧ i ≤ 14) (hj : -1 ≤ j ∧ j ≤ 14)
    (hz : z = 256 * (n : ℤ) + 16 * i + j) : rowAt h z c = A n c i j := by
  by_cases hr : 0 ≤ z ∧ z < 1024
  · obtain ⟨r, hr'⟩ : ∃ r : Fin 1024, z = r.val := ⟨⟨z.toNat, by omega⟩, by simp only []; omega⟩
    rw [rowAt_of r hr', hh]
    by_cases hb : Inb i j
    · unfold Inb at hb
      rw [show r.val / 256 = n by omega, show ((r.val / 16 % 16 : ℕ) : ℤ) = i by omega,
        show ((r.val % 16 : ℕ) : ℤ) = j by omega]
    · rw [hA n c i j hb, hA]
      unfold Inb at hb ⊢
      omega
  · rw [rowAt_out (by omega), hA]
    unfold Inb
    omega

/-- The mask holds 1 on the rows of the images' pixels and 0 on the others. -/
theorem mask_apply (r : Fin 1024) :
    k0_pay24 (F := Ideal) (ix2 r 0) = if r.val / 16 % 16 < 14 ∧ r.val % 16 < 14 then 1 else 0 := by
  pointwise [k0_pay24]
  have key : ∀ r : Fin 1024,
      (IntOp.andi (IntOp.cmpi CmpIPredicate.slt (IntOp.andi (BitVec.ofNat 32 r.val) 15#32) 14#32)
          (IntOp.cmpi CmpIPredicate.slt
            (IntOp.andi (IntOp.shrsi ArithUnit.vector (BitVec.ofNat 32 r.val) 4#32) 15#32) 14#32))
        = if r.val / 16 % 16 < 14 ∧ r.val % 16 < 14 then 1#1 else 0#1 := by decide +kernel
  rw [key r, show (FloatOps.sitofp (F := Ideal) FTy.f32 : BitVec 32 → EReal) = fun b => ((b.toInt : ℝ) : EReal) from rfl]
  split <;> simp

/-- The sums of a layer at a row: over the taps and channels. -/
theorem sums_apply (h : FVec Ideal S1024x256 .bf16) (w : FVec Ideal S3x768x256 .bf16)
    (W : Fin 256 → Fin 256 → Fin 3 → Fin 3 → EReal)
    (hw : ∀ (ky kx : Fin 3) (c o : Fin 256) (k : Fin 768), k.val = 256 * kx.val + c.val → w (ix3 ky k o) = W o c ky kx)
    (r : Fin 1024) (o : Fin 256) :
    sums (wide3 (padded h)) w (ix2 r o) =
      ∑ ky : Fin 3, ∑ kx : Fin 3, ∑ c : Fin 256,
        rowAt h ((r.val : ℤ) + 16 * ky.val - 17 + kx.val) c * W o c ky kx := by
  pointwise [sums, tap3, acc0]
  have step : ∀ (ky : Fin 3) (q : Fin 1056), q.val = 16 * ky.val + r.val →
      (∑ x : Fin 768, wide3 (padded h) (ix2 q x) * w (ix3 ky x o)) =
      ∑ kx : Fin 3, ∑ c : Fin 256, rowAt h ((r.val : ℤ) + 16 * ky.val - 17 + kx.val) c * W o c ky kx := by
    intro ky q hq
    rw [sum_pairs (m := 3) (n := 256) rfl]
    refine Finset.sum_congr rfl fun kx _ => Finset.sum_congr rfl fun c _ => ?_
    rw [wide3_apply h q kx c _ rfl, hw ky kx c o _ rfl]
    congr 2
    rw [hq]
    push_cast
    ring
  rw [Fin.sum_univ_three]
  exact congrArg₂ (· + ·) (congrArg₂ (· + ·) (step 0 ⟨r.val, by omega⟩ (by simp))
    (step 1 ⟨16 + r.val, by omega⟩ (by simp))) (step 2 ⟨32 + r.val, by omega⟩ (by simp))

/-- One layer on rows that hold four images computes the layer on each image. -/
theorem layer_holds {A : ℕ → Act} {h : FVec Ideal S1024x256 .bf16} (hh : Holds A h) (hA : ∀ n, Cut (A n))
    (w : FVec Ideal S3x768x256 .bf16) (b : FVec Ideal S1x256 .f32)
    (W : Fin 256 → Fin 256 → Fin 3 → Fin 3 → EReal) (B : Fin 256 → EReal)
    (hw : ∀ (ky kx : Fin 3) (c o : Fin 256) (k : Fin 768), k.val = 256 * kx.val + c.val → w (ix3 ky k o) = W o c ky kx)
    (hb : ∀ o, b (ix2 0 o) = B o) :
    Holds (fun n => conv W B (A n)) (layer k0_pay24 w b h) := by
  intro r o
  pointwise [layer, relu]
  rw [mask_apply, sums_apply h w W hw, hb, conv]
  by_cases hm : r.val / 16 % 16 < 14 ∧ r.val % 16 < 14
  · rw [if_pos hm, if_pos (by unfold Inb; omega), mul_one]
    congr 2
    refine Finset.sum_congr rfl fun ky _ => Finset.sum_congr rfl fun kx _ => Finset.sum_congr rfl fun c _ => ?_
    have := ky.isLt
    have := kx.isLt
    rw [rowAt_near hh hA (r.val / 256) (((r.val / 16 % 16 : ℕ) : ℤ) + (ky.val : ℤ) - 1)
      (((r.val % 16 : ℕ) : ℤ) + (kx.val : ℤ) - 1) _ c (by omega) (by omega) (by omega) (by omega)]
  · rw [if_neg hm, if_neg (by unfold Inb; omega), mul_zero]

end Cert.KernelIdeal.Block
-- ==== Proof.Phases.lean ====
/-
  The first rows of the body and its four last products at an index: the rows hold the four images (`entry_holds`), and
  at a pixel's row the four sums are the transposed layer's taps of `Spec.lean`.
-/
module

public import proofs.«01_k».proof.Proof.Layer

@[expose] public section

set_option maxRecDepth 16384

noncomputable section

namespace Cert.KernelIdeal.Block

open Idealize.ShloMosaic Idealize.SL.Sem
open Cert.KernelIdeal Cert.KernelIdeal.Gen Cert.Spec

/-- The spread pixels at an index. -/
theorem spread_apply (x : FVec Ideal S4x256x196 .f32) (s : FVec Ideal S196x256 .bf16) (n : Fin 4) (c g : Fin 256) :
    spread x s (ix3 n c g) = ∑ p : Fin 196, x (ix3 n c p) * s (ix2 p g) := by
  pointwise [spread, acc0]

/-- One turned image at an index. -/
theorem turn_apply (v : FVec Ideal S1x256x256 .bf16) (e : FVec Ideal S256x256 .bf16) (g c : Fin 256) :
    turn v e (ix2 g c) = ∑ k : Fin 256, v (ix3 0 k g) * e (ix2 k c) := by
  pointwise [turn]

/-- A product with the identity matrix picks the one entry. -/
theorem sum_eye (f : Fin 256 → EReal) (e : FVec Ideal S256x256 .bf16)
    (he : ∀ a b : Fin 256, e (ix2 a b) = if a = b then 1 else 0) (c : Fin 256) :
    ∑ k : Fin 256, f k * e (ix2 k c) = f c := by
  rw [Finset.sum_eq_single c]
  · rw [he, if_pos rfl, mul_one]
  · intro k _ hk
    rw [he, if_neg hk, mul_zero]
  · intro h
    exact absurd (Finset.mem_univ _) h

/-- The rows the first layer reads hold the four images. -/
theorem entry_holds {A : ℕ → Act} (hA : ∀ n, Cut (A n)) (x : FVec Ideal S4x256x196 .f32)
    (s : FVec Ideal S196x256 .bf16) (e : FVec Ideal S256x256 .bf16)
    (hs : ∀ (p : Fin 196) (g : Fin 256), s (ix2 p g) = if g.val = 16 * (p.val / 14) + p.val % 14 then 1 else 0)
    (he : ∀ a b : Fin 256, e (ix2 a b) = if a = b then 1 else 0)
    (hx : ∀ (n : Fin 4) (c : Fin 256) (p : Fin 196),
      x (ix3 n c p) = A n.val c ((p.val / 14 : ℕ) : ℤ) ((p.val % 14 : ℕ) : ℤ)) :
    Holds A (entry x s e) := by
  have pix : ∀ (n : Fin 4) (c g : Fin 256),
      ∑ p : Fin 196, x (ix3 n c p) * s (ix2 p g) = A n.val c ((g.val / 16 : ℕ) : ℤ) ((g.val % 16 : ℕ) : ℤ) := by
    intro n c g
    have hg := g.isLt
    by_cases hin : g.val / 16 < 14 ∧ g.val % 16 < 14
    · rw [Finset.sum_eq_single (⟨14 * (g.val / 16) + g.val % 16, by omega⟩ : Fin 196)]
      · rw [hs, if_pos (by simp only []; omega), mul_one, hx]
        congr 2 <;> (simp only []; omega)
      · intro p _ hp
        rw [hs, if_neg, mul_zero]
        intro h
        exact hp (Fin.ext (by simp only []; omega))
      · intro h
        exact absurd (Finset.mem_univ _) h
    · rw [hA n.val c _ _ (by unfold Inb; omega)]
      refine Finset.sum_eq_zero fun p _ => ?_
      rw [hs, if_neg (by have := p.isLt; omega), mul_zero]
  have piece : ∀ (n : Fin 4) (v : FVec Ideal S1x256x256 .bf16) (g c : Fin 256),
      (∀ k, v (ix3 0 k g) = spread x s (ix3 n k g)) →
      turn v e (ix2 g c) = A n.val c ((g.val / 16 : ℕ) : ℤ) ((g.val % 16 : ℕ) : ℤ) := by
    intro n v g c hv
    rw [turn_apply]
    simp only [hv]
    rw [sum_eye _ e he, spread_apply, pix]
  intro r c
  pointwise [entry]
  have hr := r.isLt
  by_cases h0 : r.val < 256
  · rw [dif_pos h0, piece 0]
    · congr 2 <;> (simp only [Fin.val_zero]; omega)
    · intro k; pointwise []
  by_cases h1 : r.val - 256 < 256
  · rw [dif_neg h0, dif_pos h1, piece 1]
    · congr 2 <;> (simp only [Fin.val_one]; omega)
    · intro k; pointwise []
  by_cases h2 : r.val - 256 - 256 < 256
  · rw [dif_neg h0, dif_neg h1, dif_pos h2, piece 2]
    · congr 2 <;> (simp only [Fin.val_two]; omega)
    · intro k; pointwise []
  · rw [dif_neg h0, dif_neg h1, dif_neg h2, piece 3]
    · congr 2 <;> (simp only [show ((3 : Fin 4).val) = 3 from rfl]; omega)
    · intro k; pointwise []

/-- The rows beside their successors at an index. -/
theorem here_apply (h : FVec Ideal S1024x256 .bf16) (r : Fin 1024) (kx : Fin 2) (c : Fin 256) (k : Fin 512)
    (hk : k.val = 256 * kx.val + c.val) : here h (ix2 r k) = rowAt h ((r.val : ℤ) + kx.val) c := by
  pointwise [here]
  rw [wide2_apply h _ kx c k hk]
  congr 1
  simp only []
  omega

/-- The rows one line below at an index. -/
theorem below_apply (h : FVec Ideal S1024x256 .bf16) (r : Fin 1024) (kx : Fin 2) (c : Fin 256) (k : Fin 512)
    (hk : k.val = 256 * kx.val + c.val) : below h (ix2 r k) = rowAt h ((r.val : ℤ) + 16 + kx.val) c := by
  pointwise [below]
  rw [wide2_apply h _ kx c k hk]
  congr 1
  simp only []
  omega

section taps

variable {A : ℕ → Act} {h : FVec Ideal S1024x256 .bf16} (hh : Holds A h) (hA : ∀ n, Cut (A n))
variable (V : Fin 256 → Fin 256 → Fin 3 → Fin 3 → EReal)
variable (n i j : ℕ) (hn : n < 4) (hi : i < 14) (hj : j < 14) (r : Fin 1024) (hr : r.val = 256 * n + 16 * i + j)
include hh hA hn hi hj hr

/-- A sum over the first column block of the rows. -/
theorem here_left (w : Fin 256 → EReal) (f : Fin 256 → Fin 512) (hf : ∀ c, (f c).val = c.val) :
    ∑ c : Fin 256, here h (ix2 r (f c)) * w c = ∑ c : Fin 256, A n c i j * w c := by
  refine Finset.sum_congr rfl fun c _ => ?_
  rw [here_apply h r 0 c _ (by rw [hf]; simp), rowAt_near hh hA n i j _ c hn (by omega) (by omega)
    (by rw [hr]; push_cast; simp)]

/-- A sum over the second column block of the rows. -/
theorem here_right (w : Fin 256 → EReal) (f : Fin 256 → Fin 512) (hf : ∀ c, (f c).val = 256 + c.val) :
    ∑ c : Fin 256, here h (ix2 r (f c)) * w c = ∑ c : Fin 256, A n c i (j + 1) * w c := by
  refine Finset.sum_congr rfl fun c _ => ?_
  rw [here_apply h r 1 c _ (by rw [hf]; simp), rowAt_near hh hA n i (j + 1) _ c hn (by omega) (by omega)
    (by rw [hr]; push_cast; simp; ring)]

/-- A sum over the first column block of the rows one line below. -/
theorem below_left (w : Fin 256 → EReal) (f : Fin 256 → Fin 512) (hf : ∀ c, (f c).val = c.val) :
    ∑ c : Fin 256, below h (ix2 r (f c)) * w c = ∑ c : Fin 256, A n c (i + 1) j * w c := by
  refine Finset.sum_congr rfl fun c _ => ?_
  rw [below_apply h r 0 c _ (by rw [hf]; simp), rowAt_near hh hA n (i + 1) j _ c hn (by omega) (by omega)
    (by rw [hr]; push_cast; simp; ring)]

/-- A sum over the second column block of the rows one line below. -/
theorem below_right (w : Fin 256 → EReal) (f : Fin 256 → Fin 512) (hf : ∀ c, (f c).val = 256 + c.val) :
    ∑ c : Fin 256, below h (ix2 r (f c)) * w c = ∑ c : Fin 256, A n c (i + 1) (j + 1) * w c := by
  refine Finset.sum_congr rfl fun c _ => ?_
  rw [below_apply h r 1 c _ (by rw [hf]; simp), rowAt_near hh hA n (i + 1) (j + 1) _ c hn (by omega) (by omega)
    (by rw [hr]; push_cast; simp; ring)]

/-- The sums at even rows and even columns. -/
theorem sumEE_apply (w : FVec Ideal S256x256 .bf16) (hw : ∀ c o : Fin 256, w (ix2 c o) = V o c 1 1) (o : Fin 256) :
    sumEE h w (ix2 r o) = up V (A n) o (2 * i) (2 * j) := by
  rw [up_ee, tap]
  pointwise [sumEE, left, acc0]
  simp only [hw]
  exact here_left hh hA n i j hn hi hj r hr _ (fun c => ⟨c.val, by omega⟩) fun c => rfl

/-- The sums at even rows and odd columns. -/
theorem sumEO_apply (w : FVec Ideal S512x256 .bf16)
    (hw : ∀ (kx : Fin 2) (c o : Fin 256) (k : Fin 512), k.val = 256 * kx.val + c.val →
      w (ix2 k o) = V o c 1 (if kx = 0 then 0 else 2)) (o : Fin 256) :
    sumEO h w (ix2 r o) = up V (A n) o (2 * i) (2 * j + 1) := by
  rw [up_eo, tap, tap]
  pointwise [sumEO, acc0]
  rw [sum_pairs (m := 2) (n := 256) rfl, Fin.sum_univ_two]
  simp only [hw 0 _ _ ⟨256 * (0 : Fin 2).val + _, _⟩ rfl, hw 1 _ _ ⟨256 * (1 : Fin 2).val + _, _⟩ rfl]
  rw [here_left hh hA n i j hn hi hj r hr _ (fun c => ⟨256 * (0 : Fin 2).val + c.val, _⟩) fun c => by simp,
    here_right hh hA n i j hn hi hj r hr _ (fun c => ⟨256 * (1 : Fin 2).val + c.val, _⟩) fun c => by simp]
  rfl

/-- The sums at odd rows and even columns. -/
theorem sumOE_apply (w : FVec Ideal S2x256x256 .bf16)
    (hw : ∀ (ky : Fin 2) (c o : Fin 256), w (ix3 ky c o) = V o c (if ky = 0 then 0 else 2) 1) (o : Fin 256) :
    sumOE h w (ix2 r o) = up V (A n) o (2 * i + 1) (2 * j) := by
  rw [up_oe, tap, tap]
  pointwise [sumOE, left, acc0]
  simp only [hw]
  exact congrArg₂ (· + ·)
    (here_left hh hA n i j hn hi hj r hr _ (fun c => ⟨c.val, by omega⟩) fun c => rfl)
    (below_left hh hA n i j hn hi hj r hr _ (fun c => ⟨c.val, by omega⟩) fun c => rfl)

/-- The sums at odd rows and odd columns. -/
theorem sumOO_apply (w : FVec Ideal S2x512x256 .bf16)
    (hw : ∀ (ky kx : Fin 2) (c o : Fin 256) (k : Fin 512), k.val = 256 * kx.val + c.val →
      w (ix3 ky k o) = V o c (if ky = 0 then 0 else 2) (if kx = 0 then 0 else 2)) (o : Fin 256) :
    sumOO h w (ix2 r o) = up V (A n) o (2 * i + 1) (2 * j + 1) := by
  rw [up_oo, tap, tap, tap, tap]
  pointwise [sumOO, acc0]
  rw [sum_pairs (m := 2) (n := 256) rfl, sum_pairs (m := 2) (n := 256) rfl, Fin.sum_univ_two, Fin.sum_univ_two]
  simp only [hw _ 0 _ _ ⟨256 * (0 : Fin 2).val + _, _⟩ rfl, hw _ 1 _ _ ⟨256 * (1 : Fin 2).val + _, _⟩ rfl]
  rw [here_left hh hA n i j hn hi hj r hr _ (fun c => ⟨256 * (0 : Fin 2).val + c.val, _⟩) fun c => by simp,
    here_right hh hA n i j hn hi hj r hr _ (fun c => ⟨256 * (1 : Fin 2).val + c.val, _⟩) fun c => by simp,
    below_left hh hA n i j hn hi hj r hr _ (fun c => ⟨256 * (0 : Fin 2).val + c.val, _⟩) fun c => by simp,
    below_right hh hA n i j hn hi hj r hr _ (fun c => ⟨256 * (1 : Fin 2).val + c.val, _⟩) fun c => by simp]
  rfl

end taps

/-- What is stored of one phase's sums, at an index. -/
theorem head_apply (b : FVec Ideal S1x256 .f32) (w5 : FVec Ideal S256x8 .bf16) (b5 : FVec Ideal S1x8 .f32)
    (d : FVec Ideal S1024x256 .f32) (n : Fin 4) (g : Fin 256) (k : Fin 8) (r : Fin 1024)
    (hr : r.val = 256 * n.val + g.val) :
    head b w5 b5 d (ix3 n g k) = Ideal.logistic
      (score (fun o => b (ix2 0 o)) (fun o => w5 (ix2 o k)) (b5 (ix2 0 k)) fun o => d (ix2 r o)) := by
  pointwise [head, relu]
  rw [score]
  have e : (⟨n.val * 256 + g.val, by omega⟩ : Fin 1024) = r := Fin.ext (by simp only []; omega)
  simp only [← e]

end Cert.KernelIdeal.Block
-- ==== Proof.Outputs.lean ====
/-
  The four output windows' staging buffers after the body: each the stored values of the two halves of the block, and
  each half the same composition of the functions of `Block.lean`.
-/
module

public import proofs.«01_k».proof.Proof.Block
public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Block

open Idealize.ShloMosaic Idealize.SL.Sem
open Cert.KernelIdeal Cert.KernelIdeal.Gen

variable {F : FTy → Type} [FloatOps F]

/-- The two stored halves as one block: image `n` of the block from the lower half if `n` is below 4. -/
def halves (L U : Vec F S4x256x8 .f32) : Vec F S8x256x8 .f32 := fun y =>
  if h : (y 0).val < 4 then L (ix3 ⟨(y 0).val, h⟩ (y 1) (y 2))
  else U (ix3 ⟨(y 0).val - 4, by have : (y 0).val < 8 := (y 0).isLt; omega⟩ (y 1) (y 2))

/-- The two stores leave the two halves. -/
theorem canon_halves (L U : Vec F S4x256x8 .f32) : View.canon [⟨r0_11, U⟩, ⟨r0_10, L⟩] = halves L U := by
  funext y
  unfold halves
  canon_tiles x h
  · rw [dif_neg (by omega)]
    refine congrArg U ?_
    refine (eq_ix3 x).trans ?_
    refine congr (congr (congrArg ix3 (Fin.ext ?_)) (Fin.ext ?_)) (Fin.ext ?_)
    · show (x 0).val = (y 0).val - 4; omega
    · exact h1.symm
    · exact h2.symm
  · rw [dif_pos (by omega)]
    refine congrArg L ?_
    refine (eq_ix3 x).trans ?_
    refine congr (congr (congrArg ix3 (Fin.ext ?_)) (Fin.ext ?_)) (Fin.ext ?_)
    · show (x 0).val = (y 0).val; omega
    · exact h1.symm
    · exact h2.symm

variable (x0 : Vec F S8x256x196 .f32) (x1 : Vec F S196x256 .bf16) (x2 : Vec F S256x256 .bf16)
  (x3 : Vec F S3x768x256 .bf16) (x4 : Vec F S1x256 .f32) (x5 : Vec F S3x768x256 .bf16) (x6 : Vec F S1x256 .f32)
  (x7 : Vec F S3x768x256 .bf16) (x8 : Vec F S1x256 .f32) (x9 : Vec F S3x768x256 .bf16) (x10 : Vec F S1x256 .f32)
  (x11 : Vec F S256x256 .bf16) (x12 : Vec F S512x256 .bf16) (x13 : Vec F S2x256x256 .bf16)
  (x14 : Vec F S2x512x256 .bf16) (x15 : Vec F S1x256 .f32) (x16 : Vec F S256x8 .bf16) (x17 : Vec F S1x8 .f32)

theorem pay5_eq (x : Vec F S8x256x196 .f32) : k0_pay5 (View.ld x r0_0) = x := by
  unfold k0_pay5; rw [View.ld_unit_lit _ _ (by decide)]; exact shapeCast_self _ _
theorem pay6_eq (x : Vec F S3x768x256 .bf16) : k0_pay6 (View.ld x r0_1) = x := by
  unfold k0_pay6; rw [View.ld_unit_lit _ _ (by decide)]; exact shapeCast_self _ _
theorem pay7_eq (x : Vec F S1x256 .f32) : k0_pay7 (View.ld x r0_2) = x := by
  unfold k0_pay7; rw [View.ld_unit_lit _ _ (by decide)]; exact shapeCast_self _ _
theorem pay15_eq (x : Vec F S196x256 .bf16) : k0_pay15 (View.ld x r0_3) = x := by
  unfold k0_pay15; rw [View.ld_unit_lit _ _ (by decide)]; exact shapeCast_self _ _
theorem pay16_eq (x : Vec F S256x256 .bf16) : k0_pay16 (View.ld x r0_4) = x := by
  unfold k0_pay16; rw [View.ld_unit_lit _ _ (by decide)]; exact shapeCast_self _ _
theorem pay18_eq (x : Vec F S512x256 .bf16) : k0_pay18 (View.ld x r0_5) = x := by
  unfold k0_pay18; rw [View.ld_unit_lit _ _ (by decide)]; exact shapeCast_self _ _
theorem pay19_eq (x : Vec F S2x256x256 .bf16) : k0_pay19 (View.ld x r0_6) = x := by
  unfold k0_pay19; rw [View.ld_unit_lit _ _ (by decide)]; exact shapeCast_self _ _
theorem pay20_eq (x : Vec F S2x512x256 .bf16) : k0_pay20 (View.ld x r0_7) = x := by
  unfold k0_pay20; rw [View.ld_unit_lit _ _ (by decide)]; exact shapeCast_self _ _
theorem pay22_eq (x : Vec F S256x8 .bf16) : k0_pay22 (View.ld x r0_8) = x := by
  unfold k0_pay22; rw [View.ld_unit_lit _ _ (by decide)]; exact shapeCast_self _ _
theorem pay23_eq (x : Vec F S1x8 .f32) : k0_pay23 (View.ld x r0_9) = x := by
  unfold k0_pay23; rw [View.ld_unit_lit _ _ (by decide)]; exact shapeCast_self _ _

/-- One half of an output block: the rows of the half's images, one phase's sums `sum`, the stored values. -/
def half (sum : FVec F S1024x256 .bf16 → FVec F S1024x256 .f32) (x : FVec F S4x256x196 .f32) : FVec F S4x256x8 .f32 :=
  head x15 x16 x17 (sum (rows x1 x2 x3 x4 x5 x6 x7 x8 x9 x10 x))

/-- An output block: the two halves of one phase. -/
def block (sum : FVec F S1024x256 .bf16 → FVec F S1024x256 .f32) : Vec F S8x256x8 .f32 :=
  halves (half x1 x2 x3 x4 x5 x6 x7 x8 x9 x10 x15 x16 x17 sum (lower x0))
    (half x1 x2 x3 x4 x5 x6 x7 x8 x9 x10 x15 x16 x17 sum (upper x0))

/-- What the two stores of a phase hold, at loaded operands. -/
theorem canon_block (sum : FVec F S1024x256 .bf16 → FVec F S1024x256 .f32) :
    View.canon
      [⟨r0_11, half (k0_pay15 (View.ld x1 r0_3)) (k0_pay16 (View.ld x2 r0_4)) (k0_pay6 (View.ld x3 r0_1))
        (k0_pay7 (View.ld x4 r0_2)) (k0_pay6 (View.ld x5 r0_1)) (k0_pay7 (View.ld x6 r0_2)) (k0_pay6 (View.ld x7 r0_1))
        (k0_pay7 (View.ld x8 r0_2)) (k0_pay6 (View.ld x9 r0_1)) (k0_pay7 (View.ld x10 r0_2))
        (k0_pay7 (View.ld x15 r0_2)) (k0_pay22 (View.ld x16 r0_8)) (k0_pay23 (View.ld x17 r0_9)) sum
        (upper (k0_pay5 (View.ld x0 r0_0)))⟩,
       ⟨r0_10, half (k0_pay15 (View.ld x1 r0_3)) (k0_pay16 (View.ld x2 r0_4)) (k0_pay6 (View.ld x3 r0_1))
        (k0_pay7 (View.ld x4 r0_2)) (k0_pay6 (View.ld x5 r0_1)) (k0_pay7 (View.ld x6 r0_2)) (k0_pay6 (View.ld x7 r0_1))
        (k0_pay7 (View.ld x8 r0_2)) (k0_pay6 (View.ld x9 r0_1)) (k0_pay7 (View.ld x10 r0_2))
        (k0_pay7 (View.ld x15 r0_2)) (k0_pay22 (View.ld x16 r0_8)) (k0_pay23 (View.ld x17 r0_9)) sum
        (lower (k0_pay5 (View.ld x0 r0_0)))⟩]
      = block x0 x1 x2 x3 x4 x5 x6 x7 x8 x9 x10 x15 x16 x17 sum := by
  rw [canon_halves]
  simp only [pay5_eq, pay6_eq, pay7_eq, pay15_eq, pay16_eq, pay22_eq, pay23_eq]
  rfl

/-- Window 18 holds the phase of even rows and even columns. -/
theorem out18_eq : out0_18 x0 x1 x2 x3 x4 x5 x6 x7 x8 x9 x10 x11 x12 x13 x14 x15 x16 x17 =
    block x0 x1 x2 x3 x4 x5 x6 x7 x8 x9 x10 x15 x16 x17 (fun h => sumEE h x11) := by
  conv_rhs => rw [← pay16_eq x11, ← canon_block]
  rfl

/-- Window 19 holds the phase of even rows and odd columns. -/
theorem out19_eq : out0_19 x0 x1 x2 x3 x4 x5 x6 x7 x8 x9 x10 x11 x12 x13 x14 x15 x16 x17 =
    block x0 x1 x2 x3 x4 x5 x6 x7 x8 x9 x10 x15 x16 x17 (fun h => sumEO h x12) := by
  conv_rhs => rw [← pay18_eq x12, ← canon_block]
  rfl

/-- Window 20 holds the phase of odd rows and even columns. -/
theorem out20_eq : out0_20 x0 x1 x2 x3 x4 x5 x6 x7 x8 x9 x10 x11 x12 x13 x14 x15 x16 x17 =
    block x0 x1 x2 x3 x4 x5 x6 x7 x8 x9 x10 x15 x16 x17 (fun h => sumOE h x13) := by
  conv_rhs => rw [← pay19_eq x13, ← canon_block]
  rfl

/-- Window 21 holds the phase of odd rows and odd columns. -/
theorem out21_eq : out0_21 x0 x1 x2 x3 x4 x5 x6 x7 x8 x9 x10 x11 x12 x13 x14 x15 x16 x17 =
    block x0 x1 x2 x3 x4 x5 x6 x7 x8 x9 x10 x15 x16 x17 (fun h => sumOO h x14) := by
  conv_rhs => rw [← pay20_eq x14, ← canon_block]
  rfl

end Cert.KernelIdeal.Block
-- ==== Proof.Host.lean ====
/-
  What the kernel's input arrays hold when the region starts, element by element, in terms of the program's arguments.
-/
module

public import proofs.«01_k».proof.Proof.Gen.KernelIdeal.Frame
public import Idealize.ShloMosaic.Lib.StableHlo.ReadAt
public import Idealize.ShloMosaic.Lib.Pointwise
public import Idealize.ShloMosaic.Lib.Routing.OpsSet
public import Idealize.ShloMosaic.Lib.Routing.OpsPair

@[expose] public section

set_option maxRecDepth 16384

noncomputable section

namespace Cert.KernelIdeal.Block

open Idealize.ShloMosaic Idealize.ShloMosaic.TcCoe Idealize.SL.Sem
open Cert.KernelIdeal Cert.KernelIdeal.Gen Idealize.ShloMosaic.Routing

variable (m : (ℓ : Loc nD τ sig) → Buf (Elt Ideal) ℓ) (c : Dev nD)

/-- A convolution's weight array as the kernel holds it: tap row, then tap column and input channel, then output channel. -/
def flat (w : FVec Ideal S256x256x3x3 .f32) : FVec Ideal S3x768x256 .bf16 :=
  truncf FTy.bf16
    (shapeCast S3x768x256
      (shapeCast S9x256x256
        (transpose S3x3x256x256 [2, 3, 1, 0] w transposes_S256x256x3x3_S3x3x256x256_2_3_1_0)
        shapeCasts_S3x3x256x256_S9x256x256)
      shapeCasts_S9x256x256_S3x768x256)
    bitsLt_bf16_f32

/-- The weight of one tap, in the kernel's order. -/
theorem flat_apply (w : FVec Ideal S256x256x3x3 .f32) (ky kx : Fin 3) (i o : Fin 256) (k : Fin 768)
    (hk : k.val = 256 * kx.val + i.val) : flat w (ix3 ky k o) = w (ix4 o i ky kx) := by
  unfold flat
  pointwise
  refine congrArg w ?_
  refine congr (congr (congr (congrArg ix4 rfl) (Fin.ext ?_)) (Fin.ext ?_)) (Fin.ext ?_)
  · show k.val % 256 = i.val; omega
  · rfl
  · show k.val / 256 = kx.val; omega

theorem V_v4 : V m c main_v4 = flat (m (c, Proc.devRef .tc main_arg1)) := by
  unfold V V0; after_reads_simp; rfl
theorem V_v8 : V m c main_v8 = flat (m (c, Proc.devRef .tc main_arg3)) := by
  unfold V V0; after_reads_simp; rfl
theorem V_v12 : V m c main_v12 = flat (m (c, Proc.devRef .tc main_arg5)) := by
  unfold V V0; after_reads_simp; rfl
theorem V_v16 : V m c main_v16 = flat (m (c, Proc.devRef .tc main_arg7)) := by
  unfold V V0; after_reads_simp; rfl

/-- A bias as a row. -/
def biasRow (b : FVec Ideal S256 .f32) : FVec Ideal S1x256 .f32 := shapeCast S1x256 b shapeCasts_S256_S1x256

theorem biasRow_apply (b : FVec Ideal S256 .f32) (o : Fin 256) : biasRow b (ix2 0 o) = b (ix1 o) := by
  unfold biasRow; pointwise

theorem V_v54 : V m c main_v54 = biasRow (m (c, Proc.devRef .tc main_arg2)) := by
  unfold V V0; after_reads_simp; rfl
theorem V_v55 : V m c main_v55 = biasRow (m (c, Proc.devRef .tc main_arg4)) := by
  unfold V V0; after_reads_simp; rfl
theorem V_v56 : V m c main_v56 = biasRow (m (c, Proc.devRef .tc main_arg6)) := by
  unfold V V0; after_reads_simp; rfl
theorem V_v57 : V m c main_v57 = biasRow (m (c, Proc.devRef .tc main_arg8)) := by
  unfold V V0; after_reads_simp; rfl
theorem V_v58 : V m c main_v58 = biasRow (m (c, Proc.devRef .tc main_arg10)) := by
  unfold V V0; after_reads_simp; rfl

/-- The images, their pixels in one row. -/
theorem V_v0 (n : Fin 1000) (i : Fin 256) (p : Fin 196) :
    (V m c main_v0 : FVec Ideal S1000x256x196 .f32) (ix3 n i p)
      = m (c, Proc.devRef .tc main_arg0) (ix4 n i ⟨p.val / 14, by omega⟩ ⟨p.val % 14, by omega⟩) := by
  unfold V V0; after_reads_at

/-- The transposed convolution's weight, the taps reversed. -/
def tapsOf (w : FVec Ideal S256x256x3x3 .f32) : Fin 256 → Fin 256 → Fin 3 → Fin 3 → EReal :=
  fun o i ky kx => w (ix4 i o (Fin.rev ky) (Fin.rev kx))

theorem V_v22 (i o : Fin 256) : (V m c main_v22 : FVec Ideal S256x256 .bf16) (ix2 i o)
    = tapsOf (m (c, Proc.devRef .tc main_arg9)) o i 1 1 := by
  unfold V V0; after_reads_at; rfl

theorem V_v27 (kx : Fin 2) (i o : Fin 256) (k : Fin 512) (hk : k.val = 256 * kx.val + i.val) :
    (V m c main_v27 : FVec Ideal S512x256 .bf16) (ix2 k o)
    = tapsOf (m (c, Proc.devRef .tc main_arg9)) o i 1 (if kx = 0 then 0 else 2) := by
  unfold V V0; after_reads_at
  by_cases h : k.val < 256
  · have e : (if kx = 0 then (0 : Fin 3) else 2) = 0 := if_pos (by omega)
    rw [dif_pos h]
    exact (congrArg (fun a => tapsOf (m (c, Proc.devRef .tc main_arg9)) o a 1 0) (Fin.ext (by show k.val = i.val; omega))).trans
      (congrArg (tapsOf (m (c, Proc.devRef .tc main_arg9)) o i 1) e.symm)
  · have e : (if kx = 0 then (0 : Fin 3) else 2) = 2 := if_neg (by omega)
    rw [dif_neg h]
    exact (congrArg (fun a => tapsOf (m (c, Proc.devRef .tc main_arg9)) o a 1 2) (Fin.ext (by show k.val - 256 = i.val; omega))).trans
      (congrArg (tapsOf (m (c, Proc.devRef .tc main_arg9)) o i 1) e.symm)

theorem V_v34 (ky : Fin 2) (i o : Fin 256) :
    (V m c main_v34 : FVec Ideal S2x256x256 .bf16) (ix3 ky i o)
    = tapsOf (m (c, Proc.devRef .tc main_arg9)) o i (if ky = 0 then 0 else 2) 1 := by
  unfold V V0; after_reads_at
  by_cases h : ky.val < 1
  · rw [dif_pos h, if_pos (by omega : ky = 0)]; rfl
  · rw [dif_neg h, if_neg (by omega : ¬ky = 0)]; rfl

theorem V_v47 (ky kx : Fin 2) (i o : Fin 256) (k : Fin 512) (hk : k.val = 256 * kx.val + i.val) :
    (V m c main_v47 : FVec Ideal S2x512x256 .bf16) (ix3 ky k o)
    = tapsOf (m (c, Proc.devRef .tc main_arg9)) o i (if ky = 0 then 0 else 2) (if kx = 0 then 0 else 2) := by
  unfold V V0; after_reads_at; after_reads_at
  by_cases hy : ky.val < 1
  · rw [dif_pos hy, if_pos (by omega : ky = 0)]
    by_cases h : k.val < 256
    · rw [dif_pos h, if_pos (by omega : kx = 0)]
      exact congrArg (fun a => tapsOf (m (c, Proc.devRef .tc main_arg9)) o a 0 0) (Fin.ext (by show k.val = i.val; omega))
    · rw [dif_neg h, if_neg (by omega : ¬kx = 0)]
      exact congrArg (fun a => tapsOf (m (c, Proc.devRef .tc main_arg9)) o a 0 2) (Fin.ext (by show k.val - 256 = i.val; omega))
  · rw [dif_neg hy, if_neg (by omega : ¬ky = 0)]
    by_cases h : k.val < 256
    · rw [dif_pos h, if_pos (by omega : kx = 0)]
      exact congrArg (fun a => tapsOf (m (c, Proc.devRef .tc main_arg9)) o a 2 0) (Fin.ext (by show k.val = i.val; omega))
    · rw [dif_neg h, if_neg (by omega : ¬kx = 0)]
      exact congrArg (fun a => tapsOf (m (c, Proc.devRef .tc main_arg9)) o a 2 2) (Fin.ext (by show k.val - 256 = i.val; omega))

theorem V_v51 (o : Fin 256) (k : Fin 8) (q : Fin 3) (hk : k.val = q.val) :
    (V m c main_v51 : FVec Ideal S256x8 .bf16) (ix2 o k) = m (c, Proc.devRef .tc main_arg11) (ix4 q o 0 0) := by
  unfold V V0; after_reads_at
  rw [dif_pos (by omega)]
  exact congrArg _ (congrArg (fun a => ix4 a o 0 0) (Fin.ext hk))

theorem V_v53 (k : Fin 8) (q : Fin 3) (hk : k.val = q.val) :
    (V m c main_v53 : FVec Ideal S1x8 .f32) (ix2 0 k) = m (c, Proc.devRef .tc main_arg12) (ix1 q) := by
  unfold V V0; after_reads_at
  rw [dif_pos (by omega)]
  exact congrArg _ (congrArg ix1 (Fin.ext hk))

/-- The identity matrix the entry multiplies by. -/
theorem V_v86 (i k : Fin 256) : (V m c main_v86 : FVec Ideal S256x256 .bf16) (ix2 i k)
    = if i = k then (1 : EReal) else 0 := by
  unfold V V0; after_reads_at
  show (((IntOp.cmpi CmpIPredicate.eq (IntOp.addi (BitVec.ofNat 32 i.val) 0#32) (BitVec.ofNat 32 k.val)).toNat : ℝ) : EReal) = _
  have e : (IntOp.cmpi CmpIPredicate.eq (IntOp.addi (BitVec.ofNat 32 i.val) 0#32) (BitVec.ofNat 32 k.val)).toNat
      = if i = k then 1 else 0 := by
    show (BitVec.ofBool (BitVec.ofNat 32 i.val + 0#32 == BitVec.ofNat 32 k.val)).toNat = _
    have q : (BitVec.ofNat 32 i.val + 0#32 == BitVec.ofNat 32 k.val) = decide (i = k) := by
      rw [BitVec.add_zero, Bool.eq_iff_iff, beq_iff_eq, decide_eq_true_iff]
      constructor
      · intro h
        have := congrArg BitVec.toNat h
        simp only [BitVec.toNat_ofNat] at this
        omega
      · rintro rfl; rfl
    rw [q]
    by_cases h : i = k <;> simp [h]
  rw [e]
  by_cases h : i = k
  · rw [if_pos h, if_pos h]; norm_num
  · rw [if_neg h, if_neg h]; norm_num

/-- The row of index words of pixel `p`: `p`, and its place on the 16 × 16 grid. -/
theorem V_v78 (p : Fin 196) (k : Fin 2) : (V m c main_v78 : IVec S196x2 32) (ix2 p k)
    = if k = 0 then BitVec.ofNat 32 p.val else BitVec.ofNat 32 (16 * (p.val / 14) + p.val % 14) := by
  unfold V V0; after_reads_at
  by_cases h : k.val < 1
  · rw [dif_pos h, if_pos (by omega : k = 0)]
    clear h
    change @Eq (BitVec 32) _ _
    revert p
    decide +kernel
  · rw [dif_neg h, if_neg (by omega : ¬k = 0)]
    clear h
    change @Eq (BitVec 32) _ _
    revert p
    decide +kernel

/-- The constant index vectors' scatter: update `k` lands at row `p`, column `g` exactly if its two index words are `p` and `g`. -/
theorem lands (idx : IVec S196x2 32) (k : Fin 196) (p : Fin 196) (g : Fin 256) :
    scatter_S196x256_S196x2_S196_n_01_01_1.resultIdx? (ix1 k) idx = some (ix2 p g)
      ↔ (idx (ix2 k 0)).toInt = p.val ∧ (idx (ix2 k 1)).toInt = g.val := by
  have win : ∀ q : Fin 2, scatter_S196x256_S196x2_S196_n_01_01_1.window (ix1 k) q = 0 := fun q => by
    fin_cases q <;> rfl
  have s0 : scatter_S196x256_S196x2_S196_n_01_01_1.start (ix1 k) idx 0 = (idx (ix2 k 0)).toInt := by
    unfold ScatterDims.start
    rw [dif_pos (by decide)]
    refine congrArg (fun i => (idx i).toInt) ?_
    funext b
    fin_cases b <;> rfl
  have s1 : scatter_S196x256_S196x2_S196_n_01_01_1.start (ix1 k) idx 1 = (idx (ix2 k 1)).toInt := by
    unfold ScatterDims.start
    rw [dif_pos (by decide)]
    refine congrArg (fun i => (idx i).toInt) ?_
    funext b
    fin_cases b <;> rfl
  refine (resultIdx?_ix2 _ _ _ _ _).trans ?_
  rw [win, win]
  constructor
  · rintro ⟨a, b⟩
    exact ⟨s0.symm.trans (by simpa using a), s1.symm.trans (by simpa using b)⟩
  · rintro ⟨a, b⟩
    exact ⟨by simpa using s0.trans a, by simpa using s1.trans b⟩

/-- The matrix that spreads 196 pixels over the 16 × 16 grid: row `p` is one at `p`'s place and zero elsewhere. -/
theorem V_v80 (p : Fin 196) (g : Fin 256) : (V m c main_v80 : FVec Ideal S196x256 .bf16) (ix2 p g)
    = if g.val = 16 * (p.val / 14) + p.val % 14 then (1 : EReal) else 0 := by
  have e : (V m c main_v80 : FVec Ideal S196x256 .bf16) = Host.scatter scatter_S196x256_S196x2_S196_n_01_01_1 (fun _ b => b)
      (broadcastInDim S196x256 ![] bcast_S_S196x256 (constant (F := Ideal) S_ FTy.bf16 0#16)) (V m c main_v78 : IVec S196x2 32)
      (broadcastInDim S196 ![] bcast_S_S196 (constant (F := Ideal) S_ FTy.bf16 16256#16)) := by
    unfold V V0; after_reads_simp
  have word : ∀ (k : Fin 196) (p : Fin 196) (g : Fin 256),
      scatter_S196x256_S196x2_S196_n_01_01_1.resultIdx? (ix1 k) (V m c main_v78) = some (ix2 p g)
        ↔ k = p ∧ g.val = 16 * (p.val / 14) + p.val % 14 := fun k p g => by
    rw [lands]
    rw [V_v78 m c k 0, V_v78 m c k 1, if_pos rfl, if_neg (by decide)]
    have t : ∀ n : ℕ, n < 256 → (BitVec.ofNat 32 n).toInt = (n : ℤ) := fun n h => by
      rw [BitVec.toInt_eq_toNat_of_lt (by rw [BitVec.toNat_ofNat]; omega), BitVec.toNat_ofNat, Nat.mod_eq_of_lt (by omega)]
    rw [t _ (by omega), t _ (by omega)]
    constructor
    · rintro ⟨a, b⟩
      have h : k = p := Fin.ext (by omega)
      subst h
      exact ⟨rfl, by omega⟩
    · rintro ⟨rfl, b⟩
      exact ⟨rfl, by omega⟩
  rw [e]
  by_cases h : g.val = 16 * (p.val / 14) + p.val % 14
  · rw [if_pos h]
    refine scatter_set_hit _ _ _ _ _ _ (fun k _ => ?_) (ix1 p) ((word p p g).2 ⟨rfl, h⟩)
    pointwise
  · rw [if_neg h]
    refine (scatter_set_miss _ _ _ _ _ (fun k hk => h ?_)).trans ?_
    · rw [eq_ix1 k] at hk
      exact ((word _ p g).1 hk).2
    · pointwise

end Cert.KernelIdeal.Block
-- ==== Proof.Windows.lean ====
/-
  The kernel's input blocks: the image window's block at point `t` is images `8 t … 8 t + 7`, every other input window's
  block is its whole array.
-/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Block

open Idealize.ShloMosaic Idealize.ShloMosaic.TcCoe Idealize.SL.Sem
open Cert.KernelIdeal Cert.KernelIdeal.Gen

variable (m : (ℓ : Loc nD τ sig) → Buf (Elt Ideal) ℓ) (c : Dev nD) (t : Fin grid0.N)

theorem idx0 : ∀ t : Fin grid0.N, win0_0.index t = ![t.val, 0, 0] := by decide +kernel

theorem read0 (A : FVec Ideal S1000x256x196 .f32) (n : Fin 8) (i : Fin 256) (p : Fin 196) (N : Fin 1000)
    (hN : N.val = 8 * t.val + n.val) :
    (((cfg0.win 0).blk t).view.read (Elt Ideal) A : FVec Ideal S8x256x196 .f32) (ix3 n i p) = A (ix3 N i p) := by
  blk_simp
  blk_ext [idx0]

/-- The images of a block. -/
theorem blk0 (n : Fin 8) (i : Fin 256) (p : Fin 196) (N : Fin 1000) (hN : N.val = 8 * t.val + n.val) :
    (iblk m c 0 t : FVec Ideal S8x256x196 .f32) (ix3 n i p)
      = (V m c main_v0 : FVec Ideal S1000x256x196 .f32) (ix3 N i p) :=
  read0 t _ n i p N hN

theorem read1 (A : FVec Ideal S196x256 .bf16) : ((cfg0.win 1).blk t).view.read (Elt Ideal) A = A := by
  have e : ∀ t : Fin grid0.N, win0_1.index t = ![0, 0] := by decide +kernel
  funext y; blk_simp; blk_ext [e]
theorem blk1 : (iblk m c 1 t : FVec Ideal S196x256 .bf16) = V m c main_v80 := read1 t _
theorem read2 (A : FVec Ideal S256x256 .bf16) : ((cfg0.win 2).blk t).view.read (Elt Ideal) A = A := by
  have e : ∀ t : Fin grid0.N, win0_2.index t = ![0, 0] := by decide +kernel
  funext y; blk_simp; blk_ext [e]
theorem blk2 : (iblk m c 2 t : FVec Ideal S256x256 .bf16) = V m c main_v86 := read2 t _
theorem read3 (A : FVec Ideal S3x768x256 .bf16) : ((cfg0.win 3).blk t).view.read (Elt Ideal) A = A := by
  have e : ∀ t : Fin grid0.N, win0_3.index t = ![0, 0, 0] := by decide +kernel
  funext y; blk_simp; blk_ext [e]
theorem blk3 : (iblk m c 3 t : FVec Ideal S3x768x256 .bf16) = V m c main_v4 := read3 t _
theorem read4 (A : FVec Ideal S1x256 .f32) : ((cfg0.win 4).blk t).view.read (Elt Ideal) A = A := by
  have e : ∀ t : Fin grid0.N, win0_4.index t = ![0, 0] := by decide +kernel
  funext y; blk_simp; blk_ext [e]
theorem blk4 : (iblk m c 4 t : FVec Ideal S1x256 .f32) = V m c main_v54 := read4 t _
theorem read5 (A : FVec Ideal S3x768x256 .bf16) : ((cfg0.win 5).blk t).view.read (Elt Ideal) A = A := by
  have e : ∀ t : Fin grid0.N, win0_5.index t = ![0, 0, 0] := by decide +kernel
  funext y; blk_simp; blk_ext [e]
theorem blk5 : (iblk m c 5 t : FVec Ideal S3x768x256 .bf16) = V m c main_v8 := read5 t _
theorem read6 (A : FVec Ideal S1x256 .f32) : ((cfg0.win 6).blk t).view.read (Elt Ideal) A = A := by
  have e : ∀ t : Fin grid0.N, win0_6.index t = ![0, 0] := by decide +kernel
  funext y; blk_simp; blk_ext [e]
theorem blk6 : (iblk m c 6 t : FVec Ideal S1x256 .f32) = V m c main_v55 := read6 t _
theorem read7 (A : FVec Ideal S3x768x256 .bf16) : ((cfg0.win 7).blk t).view.read (Elt Ideal) A = A := by
  have e : ∀ t : Fin grid0.N, win0_7.index t = ![0, 0, 0] := by decide +kernel
  funext y; blk_simp; blk_ext [e]
theorem blk7 : (iblk m c 7 t : FVec Ideal S3x768x256 .bf16) = V m c main_v12 := read7 t _
theorem read8 (A : FVec Ideal S1x256 .f32) : ((cfg0.win 8).blk t).view.read (Elt Ideal) A = A := by
  have e : ∀ t : Fin grid0.N, win0_8.index t = ![0, 0] := by decide +kernel
  funext y; blk_simp; blk_ext [e]
theorem blk8 : (iblk m c 8 t : FVec Ideal S1x256 .f32) = V m c main_v56 := read8 t _
theorem read9 (A : FVec Ideal S3x768x256 .bf16) : ((cfg0.win 9).blk t).view.read (Elt Ideal) A = A := by
  have e : ∀ t : Fin grid0.N, win0_9.index t = ![0, 0, 0] := by decide +kernel
  funext y; blk_simp; blk_ext [e]
theorem blk9 : (iblk m c 9 t : FVec Ideal S3x768x256 .bf16) = V m c main_v16 := read9 t _
theorem read10 (A : FVec Ideal S1x256 .f32) : ((cfg0.win 10).blk t).view.read (Elt Ideal) A = A := by
  have e : ∀ t : Fin grid0.N, win0_10.index t = ![0, 0] := by decide +kernel
  funext y; blk_simp; blk_ext [e]
theorem blk10 : (iblk m c 10 t : FVec Ideal S1x256 .f32) = V m c main_v57 := read10 t _
theorem read11 (A : FVec Ideal S256x256 .bf16) : ((cfg0.win 11).blk t).view.read (Elt Ideal) A = A := by
  have e : ∀ t : Fin grid0.N, win0_11.index t = ![0, 0] := by decide +kernel
  funext y; blk_simp; blk_ext [e]
theorem blk11 : (iblk m c 11 t : FVec Ideal S256x256 .bf16) = V m c main_v22 := read11 t _
theorem read12 (A : FVec Ideal S512x256 .bf16) : ((cfg0.win 12).blk t).view.read (Elt Ideal) A = A := by
  have e : ∀ t : Fin grid0.N, win0_12.index t = ![0, 0] := by decide +kernel
  funext y; blk_simp; blk_ext [e]
theorem blk12 : (iblk m c 12 t : FVec Ideal S512x256 .bf16) = V m c main_v27 := read12 t _
theorem read13 (A : FVec Ideal S2x256x256 .bf16) : ((cfg0.win 13).blk t).view.read (Elt Ideal) A = A := by
  have e : ∀ t : Fin grid0.N, win0_13.index t = ![0, 0, 0] := by decide +kernel
  funext y; blk_simp; blk_ext [e]
theorem blk13 : (iblk m c 13 t : FVec Ideal S2x256x256 .bf16) = V m c main_v34 := read13 t _
theorem read14 (A : FVec Ideal S2x512x256 .bf16) : ((cfg0.win 14).blk t).view.read (Elt Ideal) A = A := by
  have e : ∀ t : Fin grid0.N, win0_14.index t = ![0, 0, 0] := by decide +kernel
  funext y; blk_simp; blk_ext [e]
theorem blk14 : (iblk m c 14 t : FVec Ideal S2x512x256 .bf16) = V m c main_v47 := read14 t _
theorem read15 (A : FVec Ideal S1x256 .f32) : ((cfg0.win 15).blk t).view.read (Elt Ideal) A = A := by
  have e : ∀ t : Fin grid0.N, win0_15.index t = ![0, 0] := by decide +kernel
  funext y; blk_simp; blk_ext [e]
theorem blk15 : (iblk m c 15 t : FVec Ideal S1x256 .f32) = V m c main_v58 := read15 t _
theorem read16 (A : FVec Ideal S256x8 .bf16) : ((cfg0.win 16).blk t).view.read (Elt Ideal) A = A := by
  have e : ∀ t : Fin grid0.N, win0_16.index t = ![0, 0] := by decide +kernel
  funext y; blk_simp; blk_ext [e]
theorem blk16 : (iblk m c 16 t : FVec Ideal S256x8 .bf16) = V m c main_v51 := read16 t _
theorem read17 (A : FVec Ideal S1x8 .f32) : ((cfg0.win 17).blk t).view.read (Elt Ideal) A = A := by
  have e : ∀ t : Fin grid0.N, win0_17.index t = ![0, 0] := by decide +kernel
  funext y; blk_simp; blk_ext [e]
theorem blk17 : (iblk m c 17 t : FVec Ideal S1x8 .f32) = V m c main_v53 := read17 t _

end Cert.KernelIdeal.Block
-- ==== Proof.Net.lean ====
/-
  The whole network as one function of its arguments: four 3 by 3 layers, the transposed layer, the last product and the
  logistic function. Both programs' results are shown to be `Args.out`.
-/
module

public import proofs.«01_k».proof.Proof.Spec
public import Idealize.ShloMosaic.Lib.Pointwise

@[expose] public section

noncomputable section

namespace Cert.Spec

open Idealize.ShloMosaic

/-- The network's arguments at indices: a layer's weights by output channel, input channel, tap row, tap column; the
    transposed layer's taps as they meet the image with zeros between. -/
structure Args where
  x : Fin 1000 → Fin 256 → Fin 14 → Fin 14 → EReal
  w1 : Fin 256 → Fin 256 → Fin 3 → Fin 3 → EReal
  b1 : Fin 256 → EReal
  w2 : Fin 256 → Fin 256 → Fin 3 → Fin 3 → EReal
  b2 : Fin 256 → EReal
  w3 : Fin 256 → Fin 256 → Fin 3 → Fin 3 → EReal
  b3 : Fin 256 → EReal
  w4 : Fin 256 → Fin 256 → Fin 3 → Fin 3 → EReal
  b4 : Fin 256 → EReal
  v : Fin 256 → Fin 256 → Fin 3 → Fin 3 → EReal
  bt : Fin 256 → EReal
  w5 : Fin 3 → Fin 256 → EReal
  b5 : Fin 3 → EReal

/-- Image `n`, continued by zero. -/
def image (x : Fin 1000 → Fin 256 → Fin 14 → Fin 14 → EReal) (n : ℕ) : Act := fun c i j =>
  if h : n < 1000 ∧ Inb i j then
    x ⟨n, h.1⟩ c ⟨i.toNat, by have := h.2; unfold Inb at this; omega⟩
      ⟨j.toNat, by have := h.2; unfold Inb at this; omega⟩
  else 0

theorem image_cut (x : Fin 1000 → Fin 256 → Fin 14 → Fin 14 → EReal) (n : ℕ) : Cut (image x n) :=
  fun _ _ _ h => dif_neg fun h' => h h'.2

/-- Inside the square an image is itself. -/
theorem image_at (x : Fin 1000 → Fin 256 → Fin 14 → Fin 14 → EReal) (N : Fin 1000) (n : ℕ) (hN : n = N.val)
    (c : Fin 256) (i j : Fin 14) : image x n c (i.val : ℤ) (j.val : ℤ) = x N c i j := by
  subst hN
  unfold image
  rw [dif_pos ⟨N.isLt, by unfold Inb; omega⟩]
  rfl

/-- Image `n` after the four layers. -/
def Args.deep (a : Args) (n : ℕ) : Act :=
  conv a.w4 a.b4 (conv a.w3 a.b3 (conv a.w2 a.b2 (conv a.w1 a.b1 (image a.x n))))

theorem Args.deep_cut (a : Args) (n : ℕ) : Cut (a.deep n) := conv_cut _ _ _

/-- The network's result for image `n`, class `q`, row `y`, column `z`. -/
def Args.out (a : Args) (n : Fin 1000) (q : Fin 3) (y z : Fin 28) : EReal :=
  Ideal.logistic (score a.bt (a.w5 q) (a.b5 q) fun o => up a.v (a.deep n.val) o (y.val : ℤ) (z.val : ℤ))

end Cert.Spec
-- ==== Proof.Array.lean ====
/-
  What the kernel's four output arrays hold after the run: at every entry that reaches the result, the network's value.
-/
module

public import proofs.«01_k».proof.Proof.Phases
public import proofs.«01_k».proof.Proof.Outputs
public import proofs.«01_k».proof.Proof.Host
public import proofs.«01_k».proof.Proof.Windows
public import proofs.«01_k».proof.Proof.Net

@[expose] public section

set_option maxRecDepth 16384

noncomputable section

namespace Cert.KernelIdeal.Block

open Idealize.ShloMosaic Idealize.ShloMosaic.TcCoe Idealize.SL.Sem Cert.Spec
open Cert.KernelIdeal Cert.KernelIdeal.Gen

variable (m : (ℓ : Loc nD τ sig) → Buf (Elt Ideal) ℓ) (c : Dev nD)

/-- The network's arguments as the kernel's program holds them. -/
def args : Args where
  x := fun n k i j => m (c, Proc.devRef .tc main_arg0) (ix4 n k i j)
  w1 := fun o k ky kx => m (c, Proc.devRef .tc main_arg1) (ix4 o k ky kx)
  b1 := fun o => m (c, Proc.devRef .tc main_arg2) (ix1 o)
  w2 := fun o k ky kx => m (c, Proc.devRef .tc main_arg3) (ix4 o k ky kx)
  b2 := fun o => m (c, Proc.devRef .tc main_arg4) (ix1 o)
  w3 := fun o k ky kx => m (c, Proc.devRef .tc main_arg5) (ix4 o k ky kx)
  b3 := fun o => m (c, Proc.devRef .tc main_arg6) (ix1 o)
  w4 := fun o k ky kx => m (c, Proc.devRef .tc main_arg7) (ix4 o k ky kx)
  b4 := fun o => m (c, Proc.devRef .tc main_arg8) (ix1 o)
  v := tapsOf (m (c, Proc.devRef .tc main_arg9))
  bt := fun o => m (c, Proc.devRef .tc main_arg10) (ix1 o)
  w5 := fun q o => m (c, Proc.devRef .tc main_arg11) (ix4 q o 0 0)
  b5 := fun q => m (c, Proc.devRef .tc main_arg12) (ix1 q)

variable (t : Fin grid0.N)

/-- The rows after the four layers of four images that start at `base`. -/
theorem rows_holds (base : ℕ) (x : FVec Ideal S4x256x196 .f32)
    (hx : ∀ (n : Fin 4) (k : Fin 256) (p : Fin 196),
      x (ix3 n k p) = image (args m c).x (base + n.val) k ((p.val / 14 : ℕ) : ℤ) ((p.val % 14 : ℕ) : ℤ)) :
    Holds (fun n => (args m c).deep (base + n))
      (rows (iblk m c 1 t) (iblk m c 2 t) (iblk m c 3 t) (iblk m c 4 t) (iblk m c 5 t) (iblk m c 6 t) (iblk m c 7 t)
        (iblk m c 8 t) (iblk m c 9 t) (iblk m c 10 t) x) := by
  rw [blk1, blk2, blk3, blk4, blk5, blk6, blk7, blk8, blk9, blk10, V_v4, V_v8, V_v12, V_v16, V_v54, V_v55, V_v56, V_v57]
  unfold rows trunk
  have h0 := entry_holds (A := fun n => image (args m c).x (base + n)) (fun n => image_cut _ _) x _ _
    (V_v80 m c) (V_v86 m c) hx
  have h1 := layer_holds h0 (fun n => image_cut _ _) _ _ (args m c).w1 (args m c).b1
    (fun ky kx i o k hk => flat_apply _ ky kx i o k hk) (biasRow_apply _)
  have h2 := layer_holds h1 (fun n => conv_cut _ _ _) _ _ (args m c).w2 (args m c).b2
    (fun ky kx i o k hk => flat_apply _ ky kx i o k hk) (biasRow_apply _)
  have h3 := layer_holds h2 (fun n => conv_cut _ _ _) _ _ (args m c).w3 (args m c).b3
    (fun ky kx i o k hk => flat_apply _ ky kx i o k hk) (biasRow_apply _)
  exact layer_holds h3 (fun n => conv_cut _ _ _) _ _ (args m c).w4 (args m c).b4
    (fun ky kx i o k hk => flat_apply _ ky kx i o k hk) (biasRow_apply _)

/-- `sum` computes the transposed layer at the rows of parity `ay` and the columns of parity `az`. -/
def IsPhase (v : Fin 256 → Fin 256 → Fin 3 → Fin 3 → EReal) (ay az : ℕ)
    (sum : FVec Ideal S1024x256 .bf16 → FVec Ideal S1024x256 .f32) : Prop :=
  ∀ (A : ℕ → Act) (h : FVec Ideal S1024x256 .bf16), Holds A h → (∀ n, Cut (A n)) →
    ∀ n i j : ℕ, n < 4 → i < 14 → j < 14 → ∀ r : Fin 1024, r.val = 256 * n + 16 * i + j → ∀ o : Fin 256,
      sum h (ix2 r o) = up v (A n) o (2 * (i : ℤ) + ay) (2 * (j : ℤ) + az)

theorem phaseEE : IsPhase (args m c).v 0 0 (fun h => sumEE h (iblk m c 11 t)) := by
  intro A h hh hA n i j hn hi hj r hr o
  rw [blk11]
  refine (sumEE_apply hh hA _ n i j hn hi hj r hr _ (V_v22 m c) o).trans ?_
  simp only [Nat.cast_zero, add_zero]; rfl

theorem phaseEO : IsPhase (args m c).v 0 1 (fun h => sumEO h (iblk m c 12 t)) := by
  intro A h hh hA n i j hn hi hj r hr o
  rw [blk12]
  refine (sumEO_apply hh hA _ n i j hn hi hj r hr _ (V_v27 m c) o).trans ?_
  simp only [Nat.cast_zero, Nat.cast_one, add_zero]; rfl

theorem phaseOE : IsPhase (args m c).v 1 0 (fun h => sumOE h (iblk m c 13 t)) := by
  intro A h hh hA n i j hn hi hj r hr o
  rw [blk13]
  refine (sumOE_apply hh hA _ n i j hn hi hj r hr _ (V_v34 m c) o).trans ?_
  simp only [Nat.cast_zero, Nat.cast_one, add_zero]; rfl

theorem phaseOO : IsPhase (args m c).v 1 1 (fun h => sumOO h (iblk m c 14 t)) := by
  intro A h hh hA n i j hn hi hj r hr o
  rw [blk14]
  refine (sumOO_apply hh hA _ n i j hn hi hj r hr _ (V_v47 m c) o).trans ?_
  simp only [Nat.cast_one]; rfl

/-- The value stored for image `n` of a half that starts at `base`, at place `g` and class `k`. -/
theorem half_at (base : ℕ) (x : FVec Ideal S4x256x196 .f32)
    (hx : ∀ (n : Fin 4) (k : Fin 256) (p : Fin 196),
      x (ix3 n k p) = image (args m c).x (base + n.val) k ((p.val / 14 : ℕ) : ℤ) ((p.val % 14 : ℕ) : ℤ))
    (ay az : ℕ) (sum : FVec Ideal S1024x256 .bf16 → FVec Ideal S1024x256 .f32) (hsum : IsPhase (args m c).v ay az sum)
    (n : Fin 4) (g : Fin 256) (k : Fin 8) (N : Fin 1000) (q : Fin 3) (y z : Fin 28) (hN : N.val = base + n.val)
    (hy : y.val % 2 = ay) (hz : z.val % 2 = az) (hg : g.val = 16 * (y.val / 2) + z.val / 2) (hk : k.val = q.val) :
    half (iblk m c 1 t) (iblk m c 2 t) (iblk m c 3 t) (iblk m c 4 t) (iblk m c 5 t) (iblk m c 6 t) (iblk m c 7 t)
        (iblk m c 8 t) (iblk m c 9 t) (iblk m c 10 t) (iblk m c 15 t) (iblk m c 16 t) (iblk m c 17 t) sum x (ix3 n g k)
      = (args m c).out N q y z := by
  have hr := rows_holds m c t base x hx
  unfold half
  generalize rows _ _ _ _ _ _ _ _ _ _ x = h at hr
  refine (head_apply _ _ _ _ n g k ⟨256 * n.val + g.val, by omega⟩ rfl).trans ?_
  unfold Args.out
  refine congrArg Ideal.logistic ?_
  have e15 : (fun o => (iblk m c 15 t : FVec Ideal S1x256 .f32) (ix2 0 o)) = (args m c).bt := by
    rw [blk15, V_v58]; exact funext fun o => biasRow_apply _ o
  have e16 : (fun o => (iblk m c 16 t : FVec Ideal S256x8 .bf16) (ix2 o k)) = (args m c).w5 q := by
    rw [blk16]; exact funext fun o => V_v51 m c o k q hk
  have e17 : (iblk m c 17 t : FVec Ideal S1x8 .f32) (ix2 0 k) = (args m c).b5 q := by
    rw [blk17]; exact V_v53 m c k q hk
  have ed : (fun o => sum h (ix2 ⟨256 * n.val + g.val, by omega⟩ o))
      = fun o => up (args m c).v ((args m c).deep N.val) o (y.val : ℤ) (z.val : ℤ) := by
    funext o
    rw [hsum _ h hr (fun n => (args m c).deep_cut _) n.val (y.val / 2) (z.val / 2) n.isLt (by omega) (by omega) _
      (by simp only []; omega) o, hN,
      show 2 * ((y.val / 2 : ℕ) : ℤ) + (ay : ℤ) = (y.val : ℤ) by omega,
      show 2 * ((z.val / 2 : ℕ) : ℤ) + (az : ℤ) = (z.val : ℤ) by omega]
  exact congr (congr (congr (congrArg score e15) e16) e17) ed

/-- The value the body leaves at image `n` of the block of point `t`, at place `g` and class `k`. -/
theorem block_at (ay az : ℕ) (sum : FVec Ideal S1024x256 .bf16 → FVec Ideal S1024x256 .f32)
    (hsum : IsPhase (args m c).v ay az sum)
    (n : Fin 8) (g : Fin 256) (k : Fin 8) (N : Fin 1000) (q : Fin 3) (y z : Fin 28) (hN : N.val = 8 * t.val + n.val)
    (hy : y.val % 2 = ay) (hz : z.val % 2 = az) (hg : g.val = 16 * (y.val / 2) + z.val / 2) (hk : k.val = q.val) :
    block (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 15 t) (iblk m c 16 t) (iblk m c 17 t) sum
        (ix3 n g k)
      = (args m c).out N q y z := by
  have ht : t.val < 125 := t.isLt
  have img : ∀ (n : Fin 8) (i : Fin 256) (p : Fin 196), (iblk m c 0 t : FVec Ideal S8x256x196 .f32) (ix3 n i p)
      = image (args m c).x (8 * t.val + n.val) i ((p.val / 14 : ℕ) : ℤ) ((p.val % 14 : ℕ) : ℤ) := fun n i p => by
    refine (blk0 m c t n i p ⟨8 * t.val + n.val, by omega⟩ rfl).trans ((V_v0 m c _ i p).trans ?_)
    exact (image_at (args m c).x ⟨8 * t.val + n.val, by omega⟩ _ rfl i ⟨p.val / 14, by omega⟩ ⟨p.val % 14, by omega⟩).symm
  generalize (iblk m c 0 t : FVec Ideal S8x256x196 .f32) = x0 at img
  unfold block halves
  by_cases h : n.val < 4
  · refine (dif_pos h).trans ?_
    refine half_at m c t (8 * t.val) (lower x0) (fun n' k' p => ?_) ay az sum hsum ⟨n.val, h⟩ g k N q y z hN hy hz hg hk
    pointwise [lower]
    exact img ⟨n'.val, by omega⟩ k' p
  · refine (dif_neg h).trans ?_
    refine half_at m c t (8 * t.val + 4) (upper x0) (fun n' k' p => ?_) ay az sum hsum ⟨n.val - 4, by omega⟩ g k N q y z
      (by simp only []; omega) hy hz hg hk
    pointwise [upper]
    refine (img ⟨4 + n'.val, by omega⟩ k' p).trans ?_
    rw [show 8 * t.val + (⟨4 + n'.val, by omega⟩ : Fin 8).val = 8 * t.val + 4 + n'.val by simp only []; omega]

/-- At the entries of parity `(ay, az)` that reach the result, the value `v` at array index `i` is the network's. -/
def Good (ay az : ℕ) (i : S1000x256x8.Idx) (v : EReal) : Prop :=
  ∀ (N : Fin 1000) (q : Fin 3) (y z : Fin 28), y.val % 2 = ay → z.val % 2 = az → (i 0).val = N.val →
    (i 1).val = 16 * (y.val / 2) + z.val / 2 → (i 2).val = q.val → v = (args m c).out N q y z

/-- A block of the right phase is good wherever its index lies in the array. -/
theorem block_good (ay az : ℕ) (sum : FVec Ideal S1024x256 .bf16 → FVec Ideal S1024x256 .f32)
    (hsum : IsPhase (args m c).v ay az sum) (y : S8x256x8.Idx) (i : S1000x256x8.Idx)
    (h0 : (i 0).val = 8 * t.val + (y 0).val) (h1 : (i 1).val = (y 1).val) (h2 : (i 2).val = (y 2).val) :
    Good m c ay az i (block (iblk m c 0 t) (iblk m c 1 t) (iblk m c 2 t) (iblk m c 3 t) (iblk m c 4 t) (iblk m c 5 t)
        (iblk m c 6 t) (iblk m c 7 t) (iblk m c 8 t) (iblk m c 9 t) (iblk m c 10 t) (iblk m c 15 t) (iblk m c 16 t)
        (iblk m c 17 t) sum y) := by
  intro N q yy z hy hz hN hg hk
  rw [eq_ix3 y]
  exact block_at m c t ay az sum hsum (y 0) (y 1) (y 2) N q yy z (by omega) hy hz (by omega) (by omega)

theorem idx18 : ∀ t : Fin grid0.N, win0_18.index t = ![t.val, 0, 0] := by decide +kernel
theorem idx19 : ∀ t : Fin grid0.N, win0_19.index t = ![t.val, 0, 0] := by decide +kernel
theorem idx20 : ∀ t : Fin grid0.N, win0_20.index t = ![t.val, 0, 0] := by decide +kernel
theorem idx21 : ∀ t : Fin grid0.N, win0_21.index t = ![t.val, 0, 0] := by decide +kernel

/-- The first output array: even rows, even columns. -/
theorem arr18 (i : S1000x256x8.Idx) : Good m c 0 0 i ((dats m 0 c).arrAt 18 cfg0.N i) := by
  refine (dats m 0 c).arrAt_forall_of_covers 18 (fun i v => Good m c 0 0 i v) (by decide +kernel) (fun t hf y => ?_) i
  blk_simp
  rw [after0_18, out18_eq]
  refine block_good m c t 0 0 _ (phaseEE m c t) y _ ?_ ?_ ?_
  all_goals blk_simp [idx18]
  omega

/-- The second output array: even rows, odd columns. -/
theorem arr19 (i : S1000x256x8.Idx) : Good m c 0 1 i ((dats m 0 c).arrAt 19 cfg0.N i) := by
  refine (dats m 0 c).arrAt_forall_of_covers 19 (fun i v => Good m c 0 1 i v) (by decide +kernel) (fun t hf y => ?_) i
  blk_simp
  rw [after0_19, out19_eq]
  refine block_good m c t 0 1 _ (phaseEO m c t) y _ ?_ ?_ ?_
  all_goals blk_simp [idx19]
  omega

/-- The third output array: odd rows, even columns. -/
theorem arr20 (i : S1000x256x8.Idx) : Good m c 1 0 i ((dats m 0 c).arrAt 20 cfg0.N i) := by
  refine (dats m 0 c).arrAt_forall_of_covers 20 (fun i v => Good m c 1 0 i v) (by decide +kernel) (fun t hf y => ?_) i
  blk_simp
  rw [after0_20, out20_eq]
  refine block_good m c t 1 0 _ (phaseOE m c t) y _ ?_ ?_ ?_
  all_goals blk_simp [idx20]
  omega

/-- The fourth output array: odd rows, odd columns. -/
theorem arr21 (i : S1000x256x8.Idx) : Good m c 1 1 i ((dats m 0 c).arrAt 21 cfg0.N i) := by
  refine (dats m 0 c).arrAt_forall_of_covers 21 (fun i v => Good m c 1 1 i v) (by decide +kernel) (fun t hf y => ?_) i
  blk_simp
  rw [after0_21, out21_eq]
  refine block_good m c t 1 1 _ (phaseOO m c t) y _ ?_ ?_ ?_
  all_goals blk_simp [idx21]
  omega

end Cert.KernelIdeal.Block
-- ==== Proof.Tail.lean ====
/-
  The kernel program's result: the host operations after the region interleave the four output arrays, so every element
  of the result is the network's value.
-/
module

public import proofs.«01_k».proof.Proof.Array
public import Idealize.ShloMosaic.Lib.StableHlo.ReadAt

@[expose] public section

set_option maxRecDepth 16384

noncomputable section

namespace Cert.KernelIdeal.Block

open Idealize.ShloMosaic Idealize.ShloMosaic.TcCoe Idealize.SL.Sem Cert.Spec
open Cert.KernelIdeal Cert.KernelIdeal.Gen

/-- The result read back to the four arrays: the parities of row and column choose the array, their halves the place. -/
theorem tail_at (W : Valuation τ sig (Elt Ideal)) (n : Fin 1000) (q : Fin 3) (y x : Fin 28) :
    (StableHlo.after (List.flatten [hostOps1 (F := Ideal)]) W (Proc.devRef .tc main_v115) : FVec Ideal S1000x3x28x28 .f32)
        (ix4 n q y x)
      = if y.val % 2 < 1 then
          if x.val % 2 < 1 then
            (W (Proc.devRef .tc main_v87_0) : FVec Ideal S1000x256x8 .f32)
              (ix3 n ⟨y.val / 2 * 16 + x.val / 2, by omega⟩ ⟨q.val, by omega⟩)
          else
            (W (Proc.devRef .tc main_v87_1) : FVec Ideal S1000x256x8 .f32)
              (ix3 n ⟨y.val / 2 * 16 + x.val / 2, by omega⟩ ⟨q.val, by omega⟩)
        else
          if x.val % 2 < 1 then
            (W (Proc.devRef .tc main_v87_2) : FVec Ideal S1000x256x8 .f32)
              (ix3 n ⟨y.val / 2 * 16 + x.val / 2, by omega⟩ ⟨q.val, by omega⟩)
          else
            (W (Proc.devRef .tc main_v87_3) : FVec Ideal S1000x256x8 .f32)
              (ix3 n ⟨y.val / 2 * 16 + x.val / 2, by omega⟩ ⟨q.val, by omega⟩) := by
  after_reads_at
  after_reads_at
  after_reads_at
  by_cases hy : y.val % 2 < 1 <;> by_cases hx : x.val % 2 < 1 <;> simp only [hy, hx, if_true, if_false, dif_pos, dif_neg, not_false_eq_true] <;> rfl

variable (m : (ℓ : Loc nD τ sig) → Buf (Elt Ideal) ℓ) (c : Dev nD)

/-- Every element of the kernel program's result. -/
theorem result_at (n : Fin 1000) (q : Fin 3) (y x : Fin 28) :
    (Pipeline.afterTail₀ cfgs (dats m) 0 (V0 m) [hostOps1] c main_v115 : FVec Ideal S1000x3x28x28 .f32) (ix4 n q y x)
      = (args m c).out n q y x := by
  unfold Pipeline.afterTail₀
  refine (tail_at _ n q y x).trans ?_
  have inj : Function.Injective (Pipeline.arrRef spec0) := by decide
  have a18 := Pipeline.withArrays_arr spec0 inj c (V0 m c) (fun w => (dats m 0 c).arrAt w (cfgs 0).N) 18
  have a19 := Pipeline.withArrays_arr spec0 inj c (V0 m c) (fun w => (dats m 0 c).arrAt w (cfgs 0).N) 19
  have a20 := Pipeline.withArrays_arr spec0 inj c (V0 m c) (fun w => (dats m 0 c).arrAt w (cfgs 0).N) 20
  have a21 := Pipeline.withArrays_arr spec0 inj c (V0 m c) (fun w => (dats m 0 c).arrAt w (cfgs 0).N) 21
  by_cases hy : y.val % 2 < 1
  · rw [if_pos hy]
    by_cases hx : x.val % 2 < 1
    · rw [if_pos hx]
      exact (congrFun a18 _).trans (arr18 m c _ n q y x (by omega) (by omega) rfl
        (by show y.val / 2 * 16 + x.val / 2 = _; omega) rfl)
    · rw [if_neg hx]
      exact (congrFun a19 _).trans (arr19 m c _ n q y x (by omega) (by omega) rfl
        (by show y.val / 2 * 16 + x.val / 2 = _; omega) rfl)
  · rw [if_neg hy]
    by_cases hx : x.val % 2 < 1
    · rw [if_pos hx]
      exact (congrFun a20 _).trans (arr20 m c _ n q y x (by omega) (by omega) rfl
        (by show y.val / 2 * 16 + x.val / 2 = _; omega) rfl)
    · rw [if_neg hx]
      exact (congrFun a21 _).trans (arr21 m c _ n q y x (by omega) (by omega) rfl
        (by show y.val / 2 * 16 + x.val / 2 = _; omega) rfl)

end Cert.KernelIdeal.Block
-- ==== Proof.Ref.lean ====
/-
  The reference program element by element: each of its four layers is one layer of the network, its last part is the
  transposed layer, the last product and the logistic function, so its result is `Args.out` of its own arguments.
-/
module

public import proofs.«01_k».proof.Proof.Net
public import proofs.«01_k».proof.Proof.Gen.ReferenceIdeal.Read

@[expose] public section

set_option maxRecDepth 16384

noncomputable section

namespace Cert.ReferenceIdeal.Net

open Idealize.ShloMosaic Idealize.ShloMosaic.TcCoe Idealize.SL.Sem
open Cert.ReferenceIdeal Cert.ReferenceIdeal.Gen Cert.Spec

/-- A stack of images as a function of four indices. -/
def ofArr (x : FVec Ideal S1000x256x14x14 .f32) : Fin 1000 → Fin 256 → Fin 14 → Fin 14 → EReal :=
  fun n c i j => x (ix4 n c i j)

/-- A weight array as a function of four indices. -/
def ofWts (w : FVec Ideal S256x256x3x3 .f32) : Fin 256 → Fin 256 → Fin 3 → Fin 3 → EReal :=
  fun o c ky kx => w (ix4 o c ky kx)

/-- The images with a border of zeros. -/
def padded (x : FVec Ideal S1000x256x14x14 .f32) : FVec Ideal S1000x256x16x16 .f32 :=
  pad S1000x256x16x16 ![0, 0, 1, 1] ![0, 0, 1, 1] ![0, 0, 0, 0] x (sitofp .f32 (constantI S_ 32 0#32))
    pads_S1000x256x14x14_S1000x256x16x16_000_000_110_110 h_S_

/-- One tap of a layer: the weights at the tap times the padded images moved by it. -/
def prod14 (p : FVec Ideal S1000x256x16x16 .f32) (w : FVec Ideal S256x256x3x3 .f32) (a b : ℕ)
    (h : S1000x256x16x16.Slices ![0, 0, a, b] S1000x256x14x14) (h' : S256x256x3x3.Slices ![0, 0, a, b] S256x256x1x1) :
    FVec Ideal S1000x256x14x14 .f32 :=
  transpose S1000x256x14x14 [1, 0, 2, 3]
    (Host.dotGeneral dot_S256x256_S1000x256x14x14_S256x1000x14x14_1_1_0_023_n_n none
      (shapeCast _ (extractStridedSlice S256x256x1x1 ![0, 0, a, b] w h') shapeCasts_S256x256x1x1_S256x256)
      (extractStridedSlice S1000x256x14x14 ![0, 0, a, b] p h))
    transposes_S256x1000x14x14_S1000x256x14x14_1_0_2_3

/-- The nine taps of a layer, added up. -/
def sum14 (p : FVec Ideal S1000x256x16x16 .f32) (w : FVec Ideal S256x256x3x3 .f32) : FVec Ideal S1000x256x14x14 .f32 :=
  addf (addf (addf (addf (addf (addf (addf (addf (addf (broadcastInDim S1000x256x14x14 ![] bcast_S_S1000x256x14x14 (constant S_ .f32 0x00000000#32))
      (prod14 p w 0 0 slices_S1000x256x16x16_S1000x256x14x14_0_0_0_0 slices_S256x256x3x3_S256x256x1x1_0_0_0_0))
      (prod14 p w 0 1 slices_S1000x256x16x16_S1000x256x14x14_0_0_0_1 slices_S256x256x3x3_S256x256x1x1_0_0_0_1))
      (prod14 p w 0 2 slices_S1000x256x16x16_S1000x256x14x14_0_0_0_2 slices_S256x256x3x3_S256x256x1x1_0_0_0_2))
      (prod14 p w 1 0 slices_S1000x256x16x16_S1000x256x14x14_0_0_1_0 slices_S256x256x3x3_S256x256x1x1_0_0_1_0))
      (prod14 p w 1 1 slices_S1000x256x16x16_S1000x256x14x14_0_0_1_1 slices_S256x256x3x3_S256x256x1x1_0_0_1_1))
      (prod14 p w 1 2 slices_S1000x256x16x16_S1000x256x14x14_0_0_1_2 slices_S256x256x3x3_S256x256x1x1_0_0_1_2))
      (prod14 p w 2 0 slices_S1000x256x16x16_S1000x256x14x14_0_0_2_0 slices_S256x256x3x3_S256x256x1x1_0_0_2_0))
      (prod14 p w 2 1 slices_S1000x256x16x16_S1000x256x14x14_0_0_2_1 slices_S256x256x3x3_S256x256x1x1_0_0_2_1))
      (prod14 p w 2 2 slices_S1000x256x16x16_S1000x256x14x14_0_0_2_2 slices_S256x256x3x3_S256x256x1x1_0_0_2_2)

/-- One layer as the reference computes it. -/
def layer (x : FVec Ideal S1000x256x14x14 .f32) (w : FVec Ideal S256x256x3x3 .f32) (b : FVec Ideal S256 .f32) :
    FVec Ideal S1000x256x14x14 .f32 :=
  maximumf
    (addf (sum14 (padded x) w)
      (broadcastInDim S1000x256x14x14 ![0, 1, 2, 3] bcast_S1x256x1x1_S1000x256x14x14_0_1_2_3
        (broadcastInDim S1x256x1x1 ![1] bcast_S256_S1x256x1x1_1 b)))
    (broadcastInDim S1000x256x14x14 ![] bcast_S_S1000x256x14x14 (constant S_ .f32 0x00000000#32))

/-- The padded images at an index. -/
theorem padded_at (x : FVec Ideal S1000x256x14x14 .f32) (n : Fin 1000) (c : Fin 256) (p q : Fin 16) :
    padded x (ix4 n c p q) = image (ofArr x) n.val c ((p.val : ℤ) - 1) ((q.val : ℤ) - 1) := by
  unfold padded
  pointwise
  by_cases h : (1 ≤ p.val ∧ p.val - 1 < 14) ∧ 1 ≤ q.val ∧ q.val - 1 < 14
  · rw [dif_pos h]
    have e := image_at (ofArr x) n n.val rfl c ⟨p.val - 1, h.1.2⟩ ⟨q.val - 1, h.2.2⟩
    rw [show ((p.val : ℤ) - 1) = ((⟨p.val - 1, h.1.2⟩ : Fin 14).val : ℤ) by simp only []; omega,
      show ((q.val : ℤ) - 1) = ((⟨q.val - 1, h.2.2⟩ : Fin 14).val : ℤ) by simp only []; omega, e]
    rfl
  · rw [dif_neg h, image_cut (ofArr x) n.val c _ _ (fun h' => h (by unfold Inb at h'; omega))]
    change (((0#32 : BitVec 32).toInt : ℝ) : EReal) = 0
    norm_num

/-- One tap at an index. -/
theorem prod14_at (p : FVec Ideal S1000x256x16x16 .f32) (w : FVec Ideal S256x256x3x3 .f32) (ky kx : Fin 3)
    (h : S1000x256x16x16.Slices ![0, 0, ky.val, kx.val] S1000x256x14x14)
    (h' : S256x256x3x3.Slices ![0, 0, ky.val, kx.val] S256x256x1x1)
    (n : Fin 1000) (o : Fin 256) (i j : Fin 14) :
    prod14 p w ky.val kx.val h h' (ix4 n o i j) = ∑ c : Fin 256,
      p (ix4 n c ⟨ky.val + i.val, by omega⟩ ⟨kx.val + j.val, by omega⟩) * ofWts w o c ky kx := by
  unfold prod14
  pointwise
  exact Finset.sum_congr rfl fun c _ => mul_comm _ _

/-- One tap over the padded images at an index. -/
theorem tap14_at (x : FVec Ideal S1000x256x14x14 .f32) (w : FVec Ideal S256x256x3x3 .f32) (ky kx : Fin 3)
    (h : S1000x256x16x16.Slices ![0, 0, ky.val, kx.val] S1000x256x14x14)
    (h' : S256x256x3x3.Slices ![0, 0, ky.val, kx.val] S256x256x1x1)
    (n : Fin 1000) (o : Fin 256) (i j : Fin 14) :
    prod14 (padded x) w ky.val kx.val h h' (ix4 n o i j) = ∑ c : Fin 256,
      image (ofArr x) n.val c ((i.val : ℤ) + (ky.val : ℤ) - 1) ((j.val : ℤ) + (kx.val : ℤ) - 1) * ofWts w o c ky kx := by
  rw [prod14_at]
  refine Finset.sum_congr rfl fun c _ => ?_
  rw [padded_at]
  refine congrArg (· * _) (congrArg₂ (image (ofArr x) n.val c) ?_ ?_) <;> push_cast <;> omega

/-- The nine taps at an index. -/
theorem sum14_at (x : FVec Ideal S1000x256x14x14 .f32) (w : FVec Ideal S256x256x3x3 .f32)
    (n : Fin 1000) (o : Fin 256) (i j : Fin 14) :
    sum14 (padded x) w (ix4 n o i j) = ∑ ky : Fin 3, ∑ kx : Fin 3, ∑ c : Fin 256,
      image (ofArr x) n.val c ((i.val : ℤ) + (ky.val : ℤ) - 1) ((j.val : ℤ) + (kx.val : ℤ) - 1) * ofWts w o c ky kx := by
  have t := fun ky kx h h' => tap14_at x w ky kx h h' n o i j
  unfold sum14
  simp only [Fin.sum_univ_three]
  rw [← t 0 0 slices_S1000x256x16x16_S1000x256x14x14_0_0_0_0 slices_S256x256x3x3_S256x256x1x1_0_0_0_0,
    ← t 0 1 slices_S1000x256x16x16_S1000x256x14x14_0_0_0_1 slices_S256x256x3x3_S256x256x1x1_0_0_0_1,
    ← t 0 2 slices_S1000x256x16x16_S1000x256x14x14_0_0_0_2 slices_S256x256x3x3_S256x256x1x1_0_0_0_2,
    ← t 1 0 slices_S1000x256x16x16_S1000x256x14x14_0_0_1_0 slices_S256x256x3x3_S256x256x1x1_0_0_1_0,
    ← t 1 1 slices_S1000x256x16x16_S1000x256x14x14_0_0_1_1 slices_S256x256x3x3_S256x256x1x1_0_0_1_1,
    ← t 1 2 slices_S1000x256x16x16_S1000x256x14x14_0_0_1_2 slices_S256x256x3x3_S256x256x1x1_0_0_1_2,
    ← t 2 0 slices_S1000x256x16x16_S1000x256x14x14_0_0_2_0 slices_S256x256x3x3_S256x256x1x1_0_0_2_0,
    ← t 2 1 slices_S1000x256x16x16_S1000x256x14x14_0_0_2_1 slices_S256x256x3x3_S256x256x1x1_0_0_2_1,
    ← t 2 2 slices_S1000x256x16x16_S1000x256x14x14_0_0_2_2 slices_S256x256x3x3_S256x256x1x1_0_0_2_2]
  pointwise
  simp only [zero_add, add_assoc]

/-- One layer at an index. -/
theorem layer_at (x : FVec Ideal S1000x256x14x14 .f32) (w : FVec Ideal S256x256x3x3 .f32) (b : FVec Ideal S256 .f32)
    (n : Fin 1000) (o : Fin 256) (i j : Fin 14) :
    layer x w b (ix4 n o i j)
      = conv (ofWts w) (fun o => b (ix1 o)) (image (ofArr x) n.val) o (i.val : ℤ) (j.val : ℤ) := by
  unfold layer conv
  rw [if_pos (by unfold Inb; omega), ← sum14_at]
  generalize sum14 (padded x) w = s
  pointwise

/-- The images after one layer are the layer of the images. -/
theorem image_layer (x : FVec Ideal S1000x256x14x14 .f32) (w : FVec Ideal S256x256x3x3 .f32) (b : FVec Ideal S256 .f32)
    (n : Fin 1000) :
    image (ofArr (layer x w b)) n.val = conv (ofWts w) (fun o => b (ix1 o)) (image (ofArr x) n.val) := by
  funext o i j
  by_cases h : Inb i j
  · obtain ⟨i', hi⟩ : ∃ i' : Fin 14, i = (i'.val : ℤ) :=
      ⟨⟨i.toNat, by unfold Inb at h; omega⟩, by unfold Inb at h; simp only []; omega⟩
    obtain ⟨j', hj⟩ : ∃ j' : Fin 14, j = (j'.val : ℤ) :=
      ⟨⟨j.toNat, by unfold Inb at h; omega⟩, by unfold Inb at h; simp only []; omega⟩
    subst hi hj
    rw [image_at _ n n.val rfl]
    exact layer_at x w b n o i' j'
  · rw [image_cut _ _ _ _ _ h, conv_cut _ _ _ _ _ _ h]

/-- The images with zeros between, as the transposed layer reads them. -/
def spread (x : FVec Ideal S1000x256x14x14 .f32) : FVec Ideal S1000x256x30x30 .f32 :=
  pad S1000x256x30x30 ![0, 0, 1, 1] ![0, 0, 2, 2] ![0, 0, 1, 1] x (constant S_ .f32 0x00000000#32)
    pads_S1000x256x14x14_S1000x256x30x30_000_000_121_121 h_S_

/-- The transposed layer's weights, channels exchanged and taps turned about. -/
def turned (w : FVec Ideal S256x256x3x3 .f32) : FVec Ideal S256x256x3x3 .f32 :=
  Host.reverse [2, 3] (transpose S256x256x3x3 [1, 0, 2, 3] w transposes_S256x256x3x3_S256x256x3x3_1_0_2_3)

/-- One tap of the transposed layer. -/
def prod28 (p : FVec Ideal S1000x256x30x30 .f32) (w : FVec Ideal S256x256x3x3 .f32) (a b : ℕ)
    (h : S1000x256x30x30.Slices ![0, 0, a, b] S1000x256x28x28) (h' : S256x256x3x3.Slices ![0, 0, a, b] S256x256x1x1) :
    FVec Ideal S1000x256x28x28 .f32 :=
  transpose S1000x256x28x28 [1, 0, 2, 3]
    (Host.dotGeneral dot_S256x256_S1000x256x28x28_S256x1000x28x28_1_1_0_023_n_n none
      (shapeCast _ (extractStridedSlice S256x256x1x1 ![0, 0, a, b] w h') shapeCasts_S256x256x1x1_S256x256)
      (extractStridedSlice S1000x256x28x28 ![0, 0, a, b] p h))
    transposes_S256x1000x28x28_S1000x256x28x28_1_0_2_3

/-- The nine taps of the transposed layer, added up. -/
def sum28 (p : FVec Ideal S1000x256x30x30 .f32) (w : FVec Ideal S256x256x3x3 .f32) : FVec Ideal S1000x256x28x28 .f32 :=
  addf (addf (addf (addf (addf (addf (addf (addf (addf (broadcastInDim S1000x256x28x28 ![] bcast_S_S1000x256x28x28 (constant S_ .f32 0x00000000#32))
      (prod28 p w 0 0 slices_S1000x256x30x30_S1000x256x28x28_0_0_0_0 slices_S256x256x3x3_S256x256x1x1_0_0_0_0))
      (prod28 p w 0 1 slices_S1000x256x30x30_S1000x256x28x28_0_0_0_1 slices_S256x256x3x3_S256x256x1x1_0_0_0_1))
      (prod28 p w 0 2 slices_S1000x256x30x30_S1000x256x28x28_0_0_0_2 slices_S256x256x3x3_S256x256x1x1_0_0_0_2))
      (prod28 p w 1 0 slices_S1000x256x30x30_S1000x256x28x28_0_0_1_0 slices_S256x256x3x3_S256x256x1x1_0_0_1_0))
      (prod28 p w 1 1 slices_S1000x256x30x30_S1000x256x28x28_0_0_1_1 slices_S256x256x3x3_S256x256x1x1_0_0_1_1))
      (prod28 p w 1 2 slices_S1000x256x30x30_S1000x256x28x28_0_0_1_2 slices_S256x256x3x3_S256x256x1x1_0_0_1_2))
      (prod28 p w 2 0 slices_S1000x256x30x30_S1000x256x28x28_0_0_2_0 slices_S256x256x3x3_S256x256x1x1_0_0_2_0))
      (prod28 p w 2 1 slices_S1000x256x30x30_S1000x256x28x28_0_0_2_1 slices_S256x256x3x3_S256x256x1x1_0_0_2_1))
      (prod28 p w 2 2 slices_S1000x256x30x30_S1000x256x28x28_0_0_2_2 slices_S256x256x3x3_S256x256x1x1_0_0_2_2)

/-- What follows the transposed layer's sums: bias, the larger of it and zero, the last product, its bias, the logistic
    function spelled out. -/
def finish (s : FVec Ideal S1000x256x28x28 .f32) (bt : FVec Ideal S256 .f32) (w5 : FVec Ideal S3x256x1x1 .f32)
    (b5 : FVec Ideal S3 .f32) : FVec Ideal S1000x3x28x28 .f32 :=
  Host.divf (broadcastInDim S1000x3x28x28 ![] bcast_S_S1000x3x28x28 (constant S_ .f32 0x3F800000#32))
    (addf (broadcastInDim S1000x3x28x28 ![] bcast_S_S1000x3x28x28 (constant S_ .f32 0x3F800000#32))
      (Host.exp (Host.negf
        (addf
          (transpose S1000x3x28x28 [1, 0, 2, 3]
            (Host.dotGeneral dot_S3x256_S1000x256x28x28_S3x1000x28x28_1_1_0_023_n_n none
              (shapeCast _ w5 shapeCasts_S3x256x1x1_S3x256)
              (maximumf
                (addf s
                  (broadcastInDim S1000x256x28x28 ![0, 1, 2, 3] bcast_S1x256x1x1_S1000x256x28x28_0_1_2_3
                    (broadcastInDim S1x256x1x1 ![1] bcast_S256_S1x256x1x1_1 bt)))
                (broadcastInDim S1000x256x28x28 ![] bcast_S_S1000x256x28x28 (constant S_ .f32 0x00000000#32))))
            transposes_S3x1000x28x28_S1000x3x28x28_1_0_2_3)
          (broadcastInDim S1000x3x28x28 ![0, 1, 2, 3] bcast_S1x3x1x1_S1000x3x28x28_0_1_2_3
            (broadcastInDim S1x3x1x1 ![1] bcast_S3_S1x3x1x1_1 b5))))))

/-- The images with zeros between, at an index. -/
theorem spread_at (x : FVec Ideal S1000x256x14x14 .f32) (n : Fin 1000) (c : Fin 256) (p q : Fin 30) :
    spread x (ix4 n c p q) = dil (image (ofArr x) n.val c) (p.val : ℤ) (q.val : ℤ) := by
  unfold spread dil
  pointwise
  by_cases h : (1 ≤ p.val ∧ (p.val - 1) % 2 = 0 ∧ (p.val - 1) / 2 < 14) ∧ 1 ≤ q.val ∧ (q.val - 1) % 2 = 0 ∧ (q.val - 1) / 2 < 14
  · rw [dif_pos h, if_pos (by omega)]
    have e := image_at (ofArr x) n n.val rfl c ⟨(p.val - 1) / 2, h.1.2.2⟩ ⟨(q.val - 1) / 2, h.2.2.2⟩
    rw [show ((p.val : ℤ) / 2) = ((⟨(p.val - 1) / 2, h.1.2.2⟩ : Fin 14).val : ℤ) by simp only []; omega,
      show ((q.val : ℤ) / 2) = ((⟨(q.val - 1) / 2, h.2.2.2⟩ : Fin 14).val : ℤ) by simp only []; omega, e]
    rfl
  · rw [dif_neg h]
    by_cases h2 : (p.val : ℤ) % 2 = 1 ∧ (q.val : ℤ) % 2 = 1
    · rw [if_pos h2, image_cut (ofArr x) n.val c _ _ (fun h' => h (by unfold Inb at h'; omega))]
    · rw [if_neg h2]

/-- The turned weights at an index. -/
theorem turned_at (w : FVec Ideal S256x256x3x3 .f32) (o c : Fin 256) (ky kx : Fin 3) :
    turned w (ix4 o c ky kx) = w (ix4 c o (Fin.rev ky) (Fin.rev kx)) := by
  unfold turned
  pointwise
  simp

/-- One tap of the transposed layer at an index. -/
theorem prod28_at (p : FVec Ideal S1000x256x30x30 .f32) (w : FVec Ideal S256x256x3x3 .f32) (ky kx : Fin 3)
    (h : S1000x256x30x30.Slices ![0, 0, ky.val, kx.val] S1000x256x28x28)
    (h' : S256x256x3x3.Slices ![0, 0, ky.val, kx.val] S256x256x1x1)
    (n : Fin 1000) (o : Fin 256) (i j : Fin 28) :
    prod28 p w ky.val kx.val h h' (ix4 n o i j) = ∑ c : Fin 256,
      p (ix4 n c ⟨ky.val + i.val, by omega⟩ ⟨kx.val + j.val, by omega⟩) * ofWts w o c ky kx := by
  unfold prod28
  pointwise
  exact Finset.sum_congr rfl fun c _ => mul_comm _ _

/-- One tap of the transposed layer over the images with zeros between. -/
theorem tap28_at (x : FVec Ideal S1000x256x14x14 .f32) (w : FVec Ideal S256x256x3x3 .f32) (ky kx : Fin 3)
    (h : S1000x256x30x30.Slices ![0, 0, ky.val, kx.val] S1000x256x28x28)
    (h' : S256x256x3x3.Slices ![0, 0, ky.val, kx.val] S256x256x1x1)
    (n : Fin 1000) (o : Fin 256) (i j : Fin 28) :
    prod28 (spread x) w ky.val kx.val h h' (ix4 n o i j) = ∑ c : Fin 256,
      dil (image (ofArr x) n.val c) ((i.val : ℤ) + (ky.val : ℤ)) ((j.val : ℤ) + (kx.val : ℤ)) * ofWts w o c ky kx := by
  rw [prod28_at]
  refine Finset.sum_congr rfl fun c _ => ?_
  rw [spread_at]
  refine congrArg (· * _) (congrArg₂ (dil (image (ofArr x) n.val c)) ?_ ?_) <;> push_cast <;> omega

/-- The transposed layer's sums at an index. -/
theorem sum28_at (x : FVec Ideal S1000x256x14x14 .f32) (w : FVec Ideal S256x256x3x3 .f32)
    (n : Fin 1000) (o : Fin 256) (i j : Fin 28) :
    sum28 (spread x) w (ix4 n o i j) = up (ofWts w) (image (ofArr x) n.val) o (i.val : ℤ) (j.val : ℤ) := by
  have t := fun ky kx h h' => tap28_at x w ky kx h h' n o i j
  unfold sum28 up
  simp only [Fin.sum_univ_three]
  rw [← t 0 0 slices_S1000x256x30x30_S1000x256x28x28_0_0_0_0 slices_S256x256x3x3_S256x256x1x1_0_0_0_0,
    ← t 0 1 slices_S1000x256x30x30_S1000x256x28x28_0_0_0_1 slices_S256x256x3x3_S256x256x1x1_0_0_0_1,
    ← t 0 2 slices_S1000x256x30x30_S1000x256x28x28_0_0_0_2 slices_S256x256x3x3_S256x256x1x1_0_0_0_2,
    ← t 1 0 slices_S1000x256x30x30_S1000x256x28x28_0_0_1_0 slices_S256x256x3x3_S256x256x1x1_0_0_1_0,
    ← t 1 1 slices_S1000x256x30x30_S1000x256x28x28_0_0_1_1 slices_S256x256x3x3_S256x256x1x1_0_0_1_1,
    ← t 1 2 slices_S1000x256x30x30_S1000x256x28x28_0_0_1_2 slices_S256x256x3x3_S256x256x1x1_0_0_1_2,
    ← t 2 0 slices_S1000x256x30x30_S1000x256x28x28_0_0_2_0 slices_S256x256x3x3_S256x256x1x1_0_0_2_0,
    ← t 2 1 slices_S1000x256x30x30_S1000x256x28x28_0_0_2_1 slices_S256x256x3x3_S256x256x1x1_0_0_2_1,
    ← t 2 2 slices_S1000x256x30x30_S1000x256x28x28_0_0_2_2 slices_S256x256x3x3_S256x256x1x1_0_0_2_2]
  pointwise
  simp only [zero_add, add_assoc]

/-- The last steps at an index. -/
theorem finish_at (s : FVec Ideal S1000x256x28x28 .f32) (bt : FVec Ideal S256 .f32) (w5 : FVec Ideal S3x256x1x1 .f32)
    (b5 : FVec Ideal S3 .f32) (n : Fin 1000) (q : Fin 3) (y z : Fin 28) :
    finish s bt w5 b5 (ix4 n q y z) = Ideal.logistic (score (fun o => bt (ix1 o)) (fun o => w5 (ix4 q o 0 0)) (b5 (ix1 q))
      fun o => s (ix4 n o y z)) := by
  unfold finish score Ideal.logistic
  pointwise
  refine congrArg (fun r => Ideal.div 1 (1 + Ideal.exp (-(r + b5 (ix1 q))))) ?_
  exact Finset.sum_congr rfl fun o _ => mul_comm _ _

/-- The arguments of the reference as the network's. -/
def args (x0 : FVec Ideal S1000x256x14x14 .f32) (x1 : FVec Ideal S256x256x3x3 .f32) (x2 : FVec Ideal S256 .f32)
    (x3 : FVec Ideal S256x256x3x3 .f32) (x4 : FVec Ideal S256 .f32) (x5 : FVec Ideal S256x256x3x3 .f32)
    (x6 : FVec Ideal S256 .f32) (x7 : FVec Ideal S256x256x3x3 .f32) (x8 : FVec Ideal S256 .f32)
    (x9 : FVec Ideal S256x256x3x3 .f32) (x10 : FVec Ideal S256 .f32) (x11 : FVec Ideal S3x256x1x1 .f32)
    (x12 : FVec Ideal S3 .f32) : Args where
  x := ofArr x0
  w1 := ofWts x1
  b1 := fun o => x2 (ix1 o)
  w2 := ofWts x3
  b2 := fun o => x4 (ix1 o)
  w3 := ofWts x5
  b3 := fun o => x6 (ix1 o)
  w4 := ofWts x7
  b4 := fun o => x8 (ix1 o)
  v := fun o c ky kx => x9 (ix4 c o (Fin.rev ky) (Fin.rev kx))
  bt := fun o => x10 (ix1 o)
  w5 := fun q o => x11 (ix4 q o 0 0)
  b5 := fun q => x12 (ix1 q)

/-- The reference program's result as its four layers, the transposed layer and the last steps. -/
theorem val_eq (x0 : FVec Ideal S1000x256x14x14 .f32) (x1 : FVec Ideal S256x256x3x3 .f32) (x2 : FVec Ideal S256 .f32)
    (x3 : FVec Ideal S256x256x3x3 .f32) (x4 : FVec Ideal S256 .f32) (x5 : FVec Ideal S256x256x3x3 .f32)
    (x6 : FVec Ideal S256 .f32) (x7 : FVec Ideal S256x256x3x3 .f32) (x8 : FVec Ideal S256 .f32)
    (x9 : FVec Ideal S256x256x3x3 .f32) (x10 : FVec Ideal S256 .f32) (x11 : FVec Ideal S3x256x1x1 .f32)
    (x12 : FVec Ideal S3 .f32) :
    Read.val_main_v313 (F := Ideal) x0 x1 x2 x3 x4 x5 x6 x7 x8 x9 x10 x11 x12
      = finish (sum28 (spread (layer (layer (layer (layer x0 x1 x2) x3 x4) x5 x6) x7 x8)) (turned x9)) x10 x11 x12 := by
  have e1 : Read.val_main_v59 (F := Ideal) x0 x1 x2 = layer x0 x1 x2 := rfl
  have e2 : Read.val_main_v119 (F := Ideal) x0 x1 x2 x3 x4 = layer (Read.val_main_v59 (F := Ideal) x0 x1 x2) x3 x4 := rfl
  have e3 : Read.val_main_v179 (F := Ideal) x0 x1 x2 x3 x4 x5 x6
      = layer (Read.val_main_v119 (F := Ideal) x0 x1 x2 x3 x4) x5 x6 := rfl
  have e4 : Read.val_main_v239 (F := Ideal) x0 x1 x2 x3 x4 x5 x6 x7 x8
      = layer (Read.val_main_v179 (F := Ideal) x0 x1 x2 x3 x4 x5 x6) x7 x8 := rfl
  have e5 : Read.val_main_v313 (F := Ideal) x0 x1 x2 x3 x4 x5 x6 x7 x8 x9 x10 x11 x12
      = finish (sum28 (spread (Read.val_main_v239 (F := Ideal) x0 x1 x2 x3 x4 x5 x6 x7 x8)) (turned x9)) x10 x11 x12 := rfl
  rw [e5, e4, e3, e2, e1]

/-- Every element of the reference's result is the network's. -/
theorem val_at (x0 : FVec Ideal S1000x256x14x14 .f32) (x1 : FVec Ideal S256x256x3x3 .f32) (x2 : FVec Ideal S256 .f32)
    (x3 : FVec Ideal S256x256x3x3 .f32) (x4 : FVec Ideal S256 .f32) (x5 : FVec Ideal S256x256x3x3 .f32)
    (x6 : FVec Ideal S256 .f32) (x7 : FVec Ideal S256x256x3x3 .f32) (x8 : FVec Ideal S256 .f32)
    (x9 : FVec Ideal S256x256x3x3 .f32) (x10 : FVec Ideal S256 .f32) (x11 : FVec Ideal S3x256x1x1 .f32)
    (x12 : FVec Ideal S3 .f32) (n : Fin 1000) (q : Fin 3) (y z : Fin 28) :
    Read.val_main_v313 (F := Ideal) x0 x1 x2 x3 x4 x5 x6 x7 x8 x9 x10 x11 x12 (ix4 n q y z)
      = (args x0 x1 x2 x3 x4 x5 x6 x7 x8 x9 x10 x11 x12).out n q y z := by
  rw [val_eq, finish_at]
  unfold Args.out Args.deep
  refine congrArg Ideal.logistic (congrArg (score _ _ _) (funext fun o => ?_))
  rw [sum28_at, image_layer, image_layer, image_layer, image_layer]
  refine congrArg (fun v => up v _ o (y.val : ℤ) (z.val : ℤ)) ?_
  funext o c ky kx
  exact turned_at x9 o c ky kx

end Cert.ReferenceIdeal.Net
-- ==== Proof.Meet.lean ====
/-
  Both programs' runs, each stated with the result array as the network of its own arguments.
-/
module

public import proofs.«01_k».proof.Proof.Tail
public import proofs.«01_k».proof.Proof.Ref
public import Idealize.ShloMosaic.Lib.Pipeline.ValueKit.Geometry

@[expose] public section

set_option maxRecDepth 16384

noncomputable section

namespace Cert.Spec

open Idealize.ShloMosaic Idealize.ShloMosaic.TcCoe Idealize.SL.Sem

/-- The network's result as an array. -/
def Args.array (a : Args) : FVec Ideal Cert.KernelIdeal.S1000x3x28x28 .f32 := fun i => a.out (i 0) (i 1) (i 2) (i 3)

/-- An array with the network's elements is the network's array. -/
theorem Args.array_ext (a : Args) (r : FVec Ideal Cert.KernelIdeal.S1000x3x28x28 .f32)
    (h : ∀ (n : Fin 1000) (q : Fin 3) (y z : Fin 28), r (ix4 n q y z) = a.out n q y z) : r = a.array := by
  funext i
  rw [eq_ix4 i]
  exact h _ _ _ _

/-- The kernel program's run: its result is the network of its arguments. -/
theorem kernel_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal)))
      ⟨m, fun _ => 0, g⟩ (fun r => ∀ c : Dev Cert.KernelIdeal.nD,
        r.2.mem ((c.tc : Thread Cert.KernelIdeal.nD Cert.KernelIdeal.τ).loc Cert.KernelIdeal.main_v115)
          = (Cert.KernelIdeal.Block.args m c).array) :=
  (θ_run Cert.KernelIdeal.defs _ _).mono
    (fun _ h c => (h.rest_eq c Cert.KernelIdeal.main_v115 (by decide)).trans
      (Args.array_ext _ _ fun n q y z => Cert.KernelIdeal.Block.result_at m c n q y z))
    (Cert.KernelIdeal.Gen.run_main m g)

/-- The reference's arguments, as memory holds them. -/
def refArgs (m : (ℓ : Loc Cert.ReferenceIdeal.nD Cert.ReferenceIdeal.τ Cert.ReferenceIdeal.sig) → Buf (Elt Ideal) ℓ)
    (c : Dev Cert.ReferenceIdeal.nD) : Args :=
  Cert.ReferenceIdeal.Net.args
    (m ((c.tc : Thread Cert.ReferenceIdeal.nD Cert.ReferenceIdeal.τ).loc Cert.ReferenceIdeal.main_arg0))
    (m ((c.tc : Thread Cert.ReferenceIdeal.nD Cert.ReferenceIdeal.τ).loc Cert.ReferenceIdeal.main_arg1))
    (m ((c.tc : Thread Cert.ReferenceIdeal.nD Cert.ReferenceIdeal.τ).loc Cert.ReferenceIdeal.main_arg2))
    (m ((c.tc : Thread Cert.ReferenceIdeal.nD Cert.ReferenceIdeal.τ).loc Cert.ReferenceIdeal.main_arg3))
    (m ((c.tc : Thread Cert.ReferenceIdeal.nD Cert.ReferenceIdeal.τ).loc Cert.ReferenceIdeal.main_arg4))
    (m ((c.tc : Thread Cert.ReferenceIdeal.nD Cert.ReferenceIdeal.τ).loc Cert.ReferenceIdeal.main_arg5))
    (m ((c.tc : Thread Cert.ReferenceIdeal.nD Cert.ReferenceIdeal.τ).loc Cert.ReferenceIdeal.main_arg6))
    (m ((c.tc : Thread Cert.ReferenceIdeal.nD Cert.ReferenceIdeal.τ).loc Cert.ReferenceIdeal.main_arg7))
    (m ((c.tc : Thread Cert.ReferenceIdeal.nD Cert.ReferenceIdeal.τ).loc Cert.ReferenceIdeal.main_arg8))
    (m ((c.tc : Thread Cert.ReferenceIdeal.nD Cert.ReferenceIdeal.τ).loc Cert.ReferenceIdeal.main_arg9))
    (m ((c.tc : Thread Cert.ReferenceIdeal.nD Cert.ReferenceIdeal.τ).loc Cert.ReferenceIdeal.main_arg10))
    (m ((c.tc : Thread Cert.ReferenceIdeal.nD Cert.ReferenceIdeal.τ).loc Cert.ReferenceIdeal.main_arg11))
    (m ((c.tc : Thread Cert.ReferenceIdeal.nD Cert.ReferenceIdeal.τ).loc Cert.ReferenceIdeal.main_arg12))

/-- The reference program's run: its result is the network of its arguments. -/
theorem reference_run
    (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => ∀ c : Dev Cert.ReferenceIdeal.nD,
        r.2.mem ((c.tc : Thread Cert.ReferenceIdeal.nD Cert.ReferenceIdeal.τ).loc Cert.ReferenceIdeal.main_v313)
          = (refArgs m c).array) :=
  (θ_run Cert.ReferenceIdeal.defs _ _).mono
    (fun _ h c => ((h c).1.trans (Cert.ReferenceIdeal.Read.val_main_v313_eq (StableHlo.launchContents m c))).trans
      (Args.array_ext _ _ fun n q y z => Cert.ReferenceIdeal.Net.val_at _ _ _ _ _ _ _ _ _ _ _ _ _ n q y z))
    (Cert.ReferenceIdeal.Value.run m g)

end Cert.Spec
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Meet
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel as printed runs, leaves its arguments and its counters as they were. -/
theorem frame_kernel : Cert.quiescent_Kernel := fun m g _ => Cert.Kernel.Gen.frame m g

/-- The kernel over the extended reals runs, leaves its arguments and its counters as they were. -/
theorem frame_ideal : Cert.quiescent_KernelIdeal := fun m g _ => Cert.KernelIdeal.Gen.frame m g

/-- The reference over the extended reals runs and leaves its arguments as they were; it has no counters. -/
theorem frame_reference : Cert.quiescent_ReferenceIdeal := fun m g _ =>
  (θ_run Cert.ReferenceIdeal.defs _ _).mono
    (fun r h => ⟨fun c => (h c).2, sem_eq_zero_of_no_sems (by decide) r.2⟩)
    (Cert.ReferenceIdeal.Value.run m g)

/-- Arguments that agree are the same network. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Cert.Spec.refArgs m' c = Cert.KernelIdeal.Block.args m c := by
  obtain ⟨h0, h1, h2, h3, h4, h5, h6, h7, h8, h9, h10, h11, h12⟩ := h
  unfold Cert.Spec.refArgs
  rw [h0, h1, h2, h3, h4, h5, h6, h7, h8, h9, h10, h11, h12]
  rfl

/-- From equal arguments the kernel and the reference end with equal results. -/
theorem algebraic : Cert.algebraic_KernelIdeal_ReferenceIdeal := by
  intro m g m' g' _ hagree
  refine ⟨fun c => (Cert.KernelIdeal.Block.args m c).array, ?_, ?_⟩
  · exact (θ_run Cert.KernelIdeal.defs _ _).mono (fun _ h c => ⟨h.1 c, h.2 c⟩)
      (θ_run_and (Cert.Spec.kernel_run m g) (Cert.KernelIdeal.Gen.unchanged m g))
  · exact (θ_run Cert.ReferenceIdeal.defs _ _).mono
      (fun _ h c => ⟨(h.1 c).trans (congrArg Cert.Spec.Args.array (args_agree m m' c (hagree c))), (h.2 c).2⟩)
      (θ_run_and (Cert.Spec.reference_run m' g') (Cert.ReferenceIdeal.Value.run m' g'))

/-- All five claims. -/
theorem claim : Cert.Claim :=
  ⟨Cert.Kernel.Gen.facts, Cert.KernelIdeal.Gen.facts, Cert.ReferenceIdeal.Gen.facts,
    frame_kernel, frame_ideal, frame_reference, trivial, algebraic⟩

end Cert.Proof

end
